-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_factors_ok [hPre_factors_ok : Cert.Pre_factors_ok.Facts] (m : (ℓ : Loc Cert.KernelIdeal.nD Cert.KernelIdeal.τ Cert.KernelIdeal.sig) → Buf (Elt Ideal) ℓ) : Prop :=
  ∀ c : Dev Cert.KernelIdeal.nD,
    (Cert.Pre_factors_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_factors_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_factors_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_factors_ok [hPre_factors_ok : Cert.Pre_factors_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_factors_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_factors_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_factors_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_factors_ok [hKernelIdeal : Cert.KernelIdeal.Facts] [hPre_factors_ok : Cert.Pre_factors_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_factors_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_factors_ok [hReferenceIdeal : Cert.ReferenceIdeal.Facts] [hPre_factors_ok : Cert.Pre_factors_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_factors_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_factors_ok [hKernelIdeal : Cert.KernelIdeal.Facts] [hReferenceIdeal : Cert.ReferenceIdeal.Facts] [hPre_factors_ok : Cert.Pre_factors_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_factors_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_factors_ok : Cert.Pre_factors_ok.Facts),
    quiescent_Kernel (hKernel := hKernel)
    ∧ quiescent_KernelIdeal (hKernelIdeal := hKernelIdeal)
    ∧ quiescent_KernelIdeal_pre_factors_ok (hKernelIdeal := hKernelIdeal) (hPre_factors_ok := hPre_factors_ok)
    ∧ quiescent_ReferenceIdeal (hReferenceIdeal := hReferenceIdeal)
    ∧ quiescent_ReferenceIdeal_pre_factors_ok (hReferenceIdeal := hReferenceIdeal) (hPre_factors_ok := hPre_factors_ok)
    ∧ preserves_Kernel_KernelIdeal
    ∧ algebraic_KernelIdeal_ReferenceIdeal_pre_factors_ok (hKernelIdeal := hKernelIdeal) (hReferenceIdeal := hReferenceIdeal) (hPre_factors_ok := hPre_factors_ok)
-- ==== Pre_factors_ok.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S_ : Shape := ⟨0, ![]⟩

class Facts : Prop where
  bcast_S_S4x8192x32 : S_.BroadcastsInDim S4x8192x32 (![] : Fin 0 → Fin S4x8192x32.rank)
  bcast_S_S4x8192 : S_.BroadcastsInDim S4x8192 (![] : Fin 0 → Fin S4x8192.rank)

variable [Facts]

def fn {F : FTy → Type} [FloatOps F] (main_arg0 : FVec F S4x8192x4096 .fp8e4m3) (main_arg1 : FVec F S4x8192x32 .f32) (main_arg2 : FVec F S4x8192x4096 .fp8e5m2) (main_arg3 : FVec F S4x8192 .f32) (main_arg4 : FVec F S4x8192 .f32) (main_arg5 : FVec F S4096 .f32) : IVec S4x8192x32 1 × IVec S4x8192 1 × IVec S4x8192 1 :=
  let main_cst : FVec F S_ .f32 := constant S_ .f32 0x00000000#32
  let main_v0 : FVec F S4x8192x32 .f32 := broadcastInDim S4x8192x32 ![] bcast_S_S4x8192x32 main_cst
  let main_v1 : IVec S4x8192x32 1 := cmpf .oge main_arg1 main_v0
  let main_cst_0 : FVec F S_ .f32 := constant S_ .f32 0x7F800000#32
  let main_v2 : FVec F S4x8192x32 .f32 := broadcastInDim S4x8192x32 ![] bcast_S_S4x8192x32 main_cst_0
  let main_v3 : IVec S4x8192x32 1 := cmpf .olt main_arg1 main_v2
  let main_v4 : IVec S4x8192x32 1 := andi main_v1 main_v3
  let main_cst_1 : FVec F S_ .f32 := constant S_ .f32 0x00000000#32
  let main_v5 : FVec F S4x8192 .f32 := broadcastInDim S4x8192 ![] bcast_S_S4x8192 main_cst_1
  let main_v6 : IVec S4x8192 1 := cmpf .oge main_arg3 main_v5
  let main_cst_2 : FVec F S_ .f32 := constant S_ .f32 0x7F800000#32
  let main_v7 : FVec F S4x8192 .f32 := broadcastInDim S4x8192 ![] bcast_S_S4x8192 main_cst_2
  let main_v8 : IVec S4x8192 1 := cmpf .olt main_arg3 main_v7
  let main_v9 : IVec S4x8192 1 := andi main_v6 main_v8
  let main_cst_3 : FVec F S_ .f32 := constant S_ .f32 0x00000000#32
  let main_v10 : FVec F S4x8192 .f32 := broadcastInDim S4x8192 ![] bcast_S_S4x8192 main_cst_3
  let main_v11 : IVec S4x8192 1 := cmpf .oge main_arg4 main_v10
  let main_cst_4 : FVec F S_ .f32 := constant S_ .f32 0x7F800000#32
  let main_v12 : FVec F S4x8192 .f32 := broadcastInDim S4x8192 ![] bcast_S_S4x8192 main_cst_4
  let main_v13 : IVec S4x8192 1 := cmpf .olt main_arg4 main_v12
  let main_v14 : IVec S4x8192 1 := andi main_v11 main_v13
  (main_v4, main_v9, main_v14)
-- ==== Kernel.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S4x32x8192 : Shape := ⟨3, ![4, 32, 8192]⟩
abbrev S1x4096 : Shape := ⟨2, ![1, 4096]⟩
abbrev S1x32x512 : Shape := ⟨3, ![1, 32, 512]⟩
abbrev S1x512x4096 : Shape := ⟨3, ![1, 512, 4096]⟩
abbrev S128x4096 : Shape := ⟨2, ![128, 4096]⟩
abbrev S8x4096 : Shape := ⟨2, ![8, 4096]⟩
abbrev S32x4096 : Shape := ⟨2, ![32, 4096]⟩
abbrev S1x32x256 : Shape := ⟨3, ![1, 32, 256]⟩
abbrev S32x256 : Shape := ⟨2, ![32, 256]⟩
abbrev S1x256 : Shape := ⟨2, ![1, 256]⟩
abbrev S8x256 : Shape := ⟨2, ![8, 256]⟩
abbrev S24x256 : Shape := ⟨2, ![24, 256]⟩
abbrev S128x256 : Shape := ⟨2, ![128, 256]⟩
abbrev S256x128 : Shape := ⟨2, ![256, 128]⟩
abbrev S96x256 : Shape := ⟨2, ![96, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x32, .f32⟩
  | .hbm, ⟨2, _⟩ => ⟨S4x8192x4096, .fp8e5m2⟩
  | .hbm, ⟨3, _⟩ => ⟨S4x8192, .f32⟩
  | .hbm, ⟨4, _⟩ => ⟨S4x8192, .f32⟩
  | .hbm, ⟨5, _⟩ => ⟨S4096, .f32⟩
  | .hbm, ⟨6, _⟩ => ⟨S4x32x8192, .f32⟩
  | .hbm, ⟨7, _⟩ => ⟨S1x4096, .f32⟩
  | .hbm, ⟨8, _⟩ => ⟨S4x8192x4096, .bf16⟩
  | .hbm, ⟨9, _⟩ => ⟨S1x4096, .f32⟩
  | .local _ .vmem, ⟨0, _⟩ => ⟨S1x32x512, .f32⟩
  | .local _ .vmem, ⟨1, _⟩ => ⟨S1x32x512, .f32⟩
  | .local _ .vmem, ⟨2, _⟩ => ⟨S1x512x4096, .fp8e4m3⟩
  | .local _ .vmem, ⟨3, _⟩ => ⟨S1x512x4096, .fp8e4m3⟩
  | .local _ .vmem, ⟨4, _⟩ => ⟨S1x512x4096, .fp8e5m2⟩
  | .local _ .vmem, ⟨5, _⟩ => ⟨S1x512x4096, .fp8e5m2⟩
  | .local _ .vmem, ⟨6, _⟩ => ⟨S4x8192, .f32⟩
  | .local _ .vmem, ⟨7, _⟩ => ⟨S4x8192, .f32⟩
  | .local _ .vmem, ⟨8, _⟩ => ⟨S1x4096, .f32⟩
  | .local _ .vmem, ⟨9, _⟩ => ⟨S1x512x4096, .bf16⟩
  | .local _ .vmem, ⟨10, _⟩ => ⟨S1x512x4096, .bf16⟩
  | .local _ .vmem, ⟨11, _⟩ => ⟨S1x4096, .f32⟩
  | .local _ .vmem, ⟨12, _⟩ => ⟨S128x4096, .bf16⟩
  | .local _ .vmem, ⟨13, _⟩ => ⟨S1x4096, .f32⟩
  | .local _ .vmem, ⟨14, _⟩ => ⟨S8x4096, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v30 : BitVec 32 := Scalar.muli v26 c512_i32
  let c0_i32_12 : BitVec 32 := 0#32
  let v31 : BitVec 32 := Scalar.addi v30 c0_i32_12
  v31
def k0_off1 (i : grid0.Coords) (c0_i32_12 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v35 : Index := Scalar.indexCast v16
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v30 : BitVec 32 := Scalar.muli v26 c512_i32
  let v31 : BitVec 32 := Scalar.addi v30 c0_i32_12
  let v32 : BitVec 32 := v31
  let v36 : Index := Scalar.indexCast v32
  ![v35.toNat, v36.toNat]
def k0_mult2 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_627 : BitVec 32 := 512#32
  let v1149 : BitVec 32 := Scalar.muli v26 c512_i32_627
  let c256_i32 : BitVec 32 := 256#32
  let v1150 : BitVec 32 := Scalar.addi v1149 c256_i32
  v1150
def k0_cond2 (i : grid0.Coords) : BitVec 1 :=
  let arg0 : BitVec 32 := BitVec.ofNat 32 (i 0).val
  let c63_i32 : BitVec 32 := 63#32
  let v2268 : BitVec 1 := Scalar.cmpi .eq arg0 c63_i32
  let v2269 : BitVec 32 := Scalar.extui v2268
  let c0_i32_1276 : BitVec 32 := 0#32
  let v2270 : BitVec 1 := Scalar.cmpi .ne v2269 c0_i32_1276
  v2270

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S1x4096 : Shape := ⟨2, ![1, 4096]⟩
abbrev S4x8192x32x128 : Shape := ⟨4, ![4, 8192, 32, 128]⟩
abbrev S4x8192x32x1 : Shape := ⟨4, ![4, 8192, 32, 1]⟩
abbrev S4x8192x1 : Shape := ⟨3, ![4, 8192, 1]⟩
abbrev S1x1x4096 : Shape := ⟨3, ![1, 1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x32, .f32⟩
  | .hbm, ⟨2, _⟩ => ⟨S4x8192x4096, .fp8e5m2⟩
  | .hbm, ⟨3, _⟩ => ⟨S4x8192, .f32⟩
  | .hbm, ⟨4, _⟩ => ⟨S4x8192, .f32⟩
  | .hbm, ⟨5, _⟩ => ⟨S4096, .f32⟩
  | .hbm, ⟨6, _⟩ => ⟨S4x8192x4096, .bf16⟩
  | .hbm, ⟨7, _⟩ => ⟨S1x4096, .f32⟩
  | .local _ .vmem, ⟨0, _⟩ => ⟨S4x8192x4096, .fp8e4m3⟩
  | .local _ .vmem, ⟨1, _⟩ => ⟨S4x8192x32, .f32⟩
  | .local _ .vmem, ⟨2, _⟩ => ⟨S4x8192x4096, .fp8e5m2⟩
  | .local _ .vmem, ⟨3, _⟩ => ⟨S4x8192, .f32⟩
  | .local _ .vmem, ⟨4, _⟩ => ⟨S4x8192, .f32⟩
  | .local _ .vmem, ⟨5, _⟩ => ⟨S4096, .f32⟩
  | .local _ .vmem, ⟨6, _⟩ => ⟨S4x8192x4096, .bf16⟩
  | .local _ .vmem, ⟨7, _⟩ => ⟨S1x4096, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pieces.lean ====
/- The pieces that one grid point writes, as families over the group of 256 tokens, the tile of 256 channels and the
   block of 128 channels: the definitions, at any arithmetic. The runs' own lists are these families (PiecesA, PiecesB, PiecesC). -/
module

public import proofs.«01_k».proof.Proof.Gen.KernelIdeal.Frame

@[expose] public section

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

/-! ## The rectangles -/

theorem inb_y128 (g : Fin 2) (b : Fin 32) : ∀ a, (![0, 256 * g.val, 128 * b.val] : Fin 3 → Nat) a + S1x256x128.size a ≤ S1x512x4096.size a := by
  revert g b; decide

theorem inb_y256 (g : Fin 2) (t : Fin 16) : ∀ a, (![0, 256 * g.val, 256 * t.val] : Fin 3 → Nat) a + S1x256x256.size a ≤ S1x512x4096.size a := by
  revert g t; decide

theorem inb_ys (g : Fin 2) : ∀ a, (![0, 0, 256 * g.val] : Fin 3 → Nat) a + S1x32x256.size a ≤ S1x32x512.size a := by
  revert g; decide

theorem inb_row128 (b : Fin 32) : ∀ a, (![0, 128 * b.val] : Fin 2 → Nat) a + S1x128.size a ≤ S1x4096.size a := by
  revert b; decide

theorem inb_wt (t : Fin 16) : ∀ a, (![0, 256 * t.val] : Fin 2 → Nat) a + S128x256.size a ≤ S128x4096.size a := by
  revert t; decide

theorem inb_acc (t : Fin 16) : ∀ a, (![0, 256 * t.val] : Fin 2 → Nat) a + S8x256.size a ≤ S8x4096.size a := by
  revert t; decide

theorem inb_accrow (b : Fin 32) : ∀ a, (![b.val % 8, 128 * b.val] : Fin 2 → Nat) a + S1x128.size a ≤ S8x4096.size a := by
  revert b; decide

theorem slices_coef (b : Fin 32) : S256x128.Slices ![0, b.val] S256x1 := by
  revert b; decide

theorem slices_dg (n : Nat) (h : n ≤ 88) : S96x256.Slices ![n, 0] S8x256 := by
  refine ⟨rfl, fun a => ?_⟩
  match a with
  | ⟨0, _⟩ => show n + 8 ≤ 96; omega
  | ⟨1, _⟩ => show 0 + 256 ≤ 256; omega

abbrev rY128 (g : Fin 2) (b : Fin 32) : Rect S1x512x4096 := Rect.unit ![0, 256 * g.val, 128 * b.val] S1x256x128.size (inb_y128 g b)
abbrev rY256 (g : Fin 2) (t : Fin 16) : Rect S1x512x4096 := Rect.unit ![0, 256 * g.val, 256 * t.val] S1x256x256.size (inb_y256 g t)
abbrev rYs (g : Fin 2) : Rect S1x32x512 := Rect.unit ![0, 0, 256 * g.val] S1x32x256.size (inb_ys g)
abbrev rRow (b : Fin 32) : Rect S1x4096 := Rect.unit ![0, 128 * b.val] S1x128.size (inb_row128 b)
abbrev rWt (t : Fin 16) : Rect S128x4096 := Rect.unit ![0, 256 * t.val] S128x256.size (inb_wt t)
abbrev rAcc (t : Fin 16) : Rect S8x4096 := Rect.unit ![0, 256 * t.val] S8x256.size (inb_acc t)
abbrev rAccRow (b : Fin 32) : Rect S8x4096 := Rect.unit ![b.val % 8, 128 * b.val] S1x128.size (inb_accrow b)
abbrev rTok (i : grid0.Coords) (g : Fin 2) : Rect S4x8192 := Rect.unit (k0_off1 i (BitVec.ofNat 32 (256 * g.val))) S1x256.size (k0_off1_inb i g)

/-! ## What is computed for a group -/

/-- the row sums `s` over the first `n` tiles -/
def sChain (y : Fin 16 → Vec F S1x256x256 .fp8e4m3) (dy : Fin 16 → Vec F S1x256x256 .fp8e5m2) (w : Fin 16 → Vec F S128x256 .bf16) :
    (n : Nat) → n ≤ 16 → FVec F S256x128 .f32
  | 0, _ => broadcast S256x128 (Scalar.ofBits .f32 0x00000000#32)
  | n + 1, h => addf (sChain y dy w n (Nat.le_of_succ_le h))
      (matmul dot_S256x256_S128x256_S256x128_1_1_0_0_n_n none (k0_pay44 (y ⟨n, h⟩) (dy ⟨n, h⟩)) (w ⟨n, h⟩) (constant S256x128 .f32 0x00000000#32))

/-- the transposed stack of the tokens' scales -/
def tokOf (ys : Vec F S1x32x256 .f32) (dys rstd : Vec F S1x256 .f32) : FVec F S256x128 .f32 := k0_pay42 (k0_pay41 ys) dys rstd

/-- the coefficient of `y`, per token and block -/
def coefOf (ys : Vec F S1x32x256 .f32) (dys rstd : Vec F S1x256 .f32) (y : Fin 16 → Vec F S1x256x256 .fp8e4m3)
    (dy : Fin 16 → Vec F S1x256x256 .fp8e5m2) (w : Fin 16 → Vec F S128x256 .bf16) : FVec F S256x128 .f32 :=
  k0_pay96 (tokOf ys dys rstd) (sChain y dy w 16 (Nat.le_refl 16))

/-- the factor of `dy`, per token -/
def aOf (ys : Vec F S1x32x256 .f32) (dys rstd : Vec F S1x256 .f32) : FVec F S256x128 .f32 := k0_pay97 (tokOf ys dys rstd)

/-- one block of `dx` -/
def dxPay (coef a : FVec F S256x128 .f32) (b : Fin 32) (dy : Vec F S1x256x128 .fp8e5m2) (γ : Vec F S1x128 .f32)
    (y : Vec F S1x256x128 .fp8e4m3) (gi : Vec F S1x128 .f32) : FVec F S1x256x128 .bf16 :=
  k0_pay100 a (broadcastTo S256x128 (shapeCast S256x1 (extractStridedSlice S256x1 ![0, b.val] coef (slices_coef b)) shapeCasts_S256x1_S256x1) broadcasts_S256x1_S256x128) dy γ y gi

/-- one tile of the accumulator after a group is added -/
def accPay (at' : FVec F S96x256 .bf16) (t : Fin 16) (y : Vec F S1x256x256 .fp8e4m3) (dy : Vec F S1x256x256 .fp8e5m2)
    (prev : Vec F S8x256 .f32) : FVec F S8x256 .f32 :=
  have d : FVec F S96x256 .f32 := matmul dot_S96x256_S256x256_S96x256_1_0_0_1_n_n none at' (k0_pay44 y dy) (constant S96x256 .f32 0x00000000#32)
  shapeCast S8x256 (addf prev (addf (addf
    (extractStridedSlice S8x256 ![t.val * 2 / 8 * 8, 0] d (slices_dg _ (by omega)))
    (extractStridedSlice S8x256 ![32 + t.val * 2 / 8 * 8, 0] d (slices_dg _ (by omega))))
    (extractStridedSlice S8x256 ![64 + t.val * 2 / 8 * 8, 0] d (slices_dg _ (by omega))))) shapeCasts_S8x256_S8x256

/-! ## The lists -/

variable (arg1 : Memref sig .tc .vmem S1x32x512 .f32) (harg1 : arg1.IsWhole) (arg2 : Memref sig .tc .vmem S1x512x4096 .fp8e4m3) (harg2 : arg2.IsWhole)
  (arg3 : Memref sig .tc .vmem S1x512x4096 .fp8e5m2) (harg3 : arg3.IsWhole) (arg4 : Memref sig .tc .vmem S4x8192 .f32) (harg4 : arg4.IsWhole)
  (arg5 : Memref sig .tc .vmem S4x8192 .f32) (harg5 : arg5.IsWhole) (arg6 : Memref sig .tc .vmem S1x4096 .f32) (harg6 : arg6.IsWhole)
  (x0 : Vec F S1x32x512 .f32) (x1 : Vec F S1x512x4096 .fp8e4m3) (x2 : Vec F S1x512x4096 .fp8e5m2) (x3 x4 : Vec F S4x8192 .f32) (x5 : Vec F S1x4096 .f32)

/-- the `k`-th last block of `dx`: group `1 - k / 32`, block `31 - k % 32` -/
def dxL (coef0 a0 coef1 a1 : FVec F S256x128 .f32) (gi : Fin 32 → Vec F S1x128 .f32) : List (View.Piece (Elt F) S1x512x4096 .bf16) :=
  List.ofFn fun k : Fin 64 =>
    have g : Fin 2 := ⟨1 - k.val / 32, by omega⟩
    have b : Fin 32 := ⟨31 - k.val % 32, by omega⟩
    ⟨rY128 g b, dxPay (if k.val < 32 then coef1 else coef0) (if k.val < 32 then a1 else a0) b
      (View.readAt (Elt F) arg3.view (rY128 g b).toLoadRect (harg3.unread x2))
      (View.readAt (Elt F) arg6.view (rRow b).toLoadRect (harg6.unread x5))
      (View.readAt (Elt F) arg2.view (rY128 g b).toLoadRect (harg2.unread x1)) (gi b)⟩

/-- one more store of the accumulator, the `n`-th of the 32 (16 tiles for each group), over the stores `L`; `ld` loads the tile -/
def accStep (at0 at1 : FVec F S96x256 .bf16) (ld : Nat → Fin 16 → List (View.Piece (Elt F) S8x4096 .f32) → Vec F S8x256 .f32)
    (n : Nat) (L : List (View.Piece (Elt F) S8x4096 .f32)) : List (View.Piece (Elt F) S8x4096 .f32) :=
  ⟨rAcc ⟨n % 16, by omega⟩, accPay (if n < 16 then at0 else at1) ⟨n % 16, by omega⟩
    (View.readAt (Elt F) arg2.view (rY256 ⟨n / 16 % 2, by omega⟩ ⟨n % 16, by omega⟩).toLoadRect (harg2.unread x1))
    (View.readAt (Elt F) arg3.view (rY256 ⟨n / 16 % 2, by omega⟩ ⟨n % 16, by omega⟩).toLoadRect (harg3.unread x2))
    (ld n ⟨n % 16, by omega⟩ L)⟩ :: L

/-- the accumulator's first `n` stores, over the stores `L0` -/
def accL (at0 at1 : FVec F S96x256 .bf16) (ld : Nat → Fin 16 → List (View.Piece (Elt F) S8x4096 .f32) → Vec F S8x256 .f32)
    (L0 : List (View.Piece (Elt F) S8x4096 .f32)) : Nat → List (View.Piece (Elt F) S8x4096 .f32)
  | 0 => L0
  | n + 1 => accStep arg2 harg2 arg3 harg3 x1 x2 at0 at1 ld n (accL at0 at1 ld L0 n)

/-- the blocks of `dgamma` that the last point stores -/
def dgL (acc gi : Fin 32 → Vec F S1x128 .f32) : List (View.Piece (Elt F) S1x4096 .f32) :=
  List.ofFn fun k : Fin 32 => have b : Fin 32 := ⟨31 - k.val, by omega⟩; ⟨rRow b, mulf (acc b) (gi b)⟩

def ldYs (g : Fin 2) : Vec F S1x32x256 .f32 := View.readAt (Elt F) arg1.view (rYs g).toLoadRect (harg1.unread x0)
def ldTok (arg4 : Memref sig .tc .vmem S4x8192 .f32) (harg4 : arg4.IsWhole) (x3 : Vec F S4x8192 .f32) (i : grid0.Coords) (g : Fin 2) : Vec F S1x256 .f32 :=
  View.readAt (Elt F) arg4.view (rTok i g).toLoadRect (harg4.unread x3)

/-- the coefficient, from the loads of group `g` -/
def coefG (i : grid0.Coords) (w : Fin 16 → Vec F S128x256 .bf16) (g : Fin 2) : FVec F S256x128 .f32 :=
  coefOf (ldYs arg1 harg1 x0 g) (ldTok arg4 harg4 x3 i g) (ldTok arg5 harg5 x4 i g)
    (fun t => View.readAt (Elt F) arg2.view (rY256 g t).toLoadRect (harg2.unread x1))
    (fun t => View.readAt (Elt F) arg3.view (rY256 g t).toLoadRect (harg3.unread x2)) w
def aG (i : grid0.Coords) (g : Fin 2) : FVec F S256x128 .f32 :=
  aOf (ldYs arg1 harg1 x0 g) (ldTok arg4 harg4 x3 i g) (ldTok arg5 harg5 x4 i g)
def atG (i : grid0.Coords) (g : Fin 2) : FVec F S96x256 .bf16 :=
  k0_pay43 (k0_pay41 (ldYs arg1 harg1 x0 g)) (ldTok arg4 harg4 x3 i g)

end Cert.KernelIdeal.Pieces

end
-- ==== Proof.Alg.lean ====
/- The extended-real algebra of the claim: nonnegative finite factors distribute over every sum, the guarded divisor is
   never zero, and `gamma / guard gamma` and `1 / guard gamma` are finite whatever `gamma` is. -/
module

public import Idealize.ShloMosaic.Lib.Pointwise
public import Idealize.ShloMosaic.Lib.Pipeline.ValueKit

@[expose] public section

set_option maxRecDepth 16384

noncomputable section

namespace Cert.Alg

open Idealize.ShloMosaic

/-- nonnegative and finite -/
def NF (x : EReal) : Prop := 0 ≤ x ∧ x ≠ ⊤

theorem NF.ne_bot {x : EReal} (h : NF x) : x ≠ ⊥ := fun e => by
  have := h.1; rw [e] at this; exact absurd this (by simp)

theorem NF.real {x : EReal} (h : NF x) : ∃ r : ℝ, 0 ≤ r ∧ x = (r : EReal) :=
  ⟨x.toReal, EReal.toReal_nonneg h.1, (EReal.coe_toReal h.2 h.ne_bot).symm⟩

theorem NF.mul {x y : EReal} (hx : NF x) (hy : NF y) : NF (x * y) := by
  obtain ⟨a, ha, rfl⟩ := hx.real
  obtain ⟨b, hb, rfl⟩ := hy.real
  rw [← EReal.coe_mul]
  exact ⟨EReal.coe_nonneg.2 (mul_nonneg ha hb), EReal.coe_ne_top _⟩

theorem NF.sub_self {x : EReal} (h : NF x) : x - x = 0 := EReal.sub_self h.2 h.ne_bot

/-- a nonnegative finite factor goes into any sum -/
theorem NF.mul_sum {ι : Type*} (s : Finset ι) {c : EReal} (hc : NF c) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top hc.1 hc.2, ih]

theorem NF.sum_mul {ι : Type*} (s : Finset ι) {c : EReal} (hc : NF c) (f : ι → EReal) : (∑ i ∈ s, f i) * c = ∑ i ∈ s, f i * c := by
  rw [mul_comm, hc.mul_sum]; exact Finset.sum_congr rfl fun i _ => mul_comm _ _

theorem NF.mul_sub {c : EReal} (hc : NF c) (a b : EReal) : c * (a - b) = c * a - c * b := by
  rw [sub_eq_add_neg, EReal.left_distrib_of_nonneg_of_ne_top hc.1 hc.2, sub_eq_add_neg, mul_comm c (-b), EReal.neg_mul, mul_comm b c]

/-! ## The constants -/

/-- the programs' constants, as they spell them: 0.01, -0.01, 1/4096 and 4096 -/
abbrev cLo : EReal := Ideal.ofBits .f32 0x3C23D70A#32
abbrev cNeg : EReal := Ideal.ofBits .f32 0xBC23D70A#32
abbrev cInv : EReal := Ideal.ofBits .f32 0x39800000#32
abbrev cD : EReal := Ideal.ofBits .f32 0x45800000#32

theorem cLo_pos : 0 < cLo := by
  show (0 : EReal) < Ideal.ofBits .f32 0x3C23D70A#32
  simp [Ideal.ofBits, Ideal.ieee, -EReal.coe_mul]

theorem cNeg_neg : cNeg < 0 := by
  show Ideal.ofBits .f32 0xBC23D70A#32 < (0 : EReal)
  simp [Ideal.ofBits, Ideal.ieee, -EReal.coe_mul]

theorem cD_eq : cD = ((4096 : ℝ) : EReal) := by
  show Ideal.ofBits .f32 0x45800000#32 = _
  simp [Ideal.ofBits, Ideal.ieee, -EReal.coe_mul]; norm_num

theorem cInv_eq : cInv = ((1 / 4096 : ℝ) : EReal) := by
  show Ideal.ofBits .f32 0x39800000#32 = _
  simp [Ideal.ofBits, Ideal.ieee, -EReal.coe_mul]; norm_num

/-- the mean's division is the kernel's multiplication -/
theorem div_cD (x : EReal) : Ideal.div x cD = x * cInv := by
  rw [cD_eq, cInv_eq]; exact Ideal.div_coe (by norm_num) x

/-! ## The guarded divisor -/

/-- `gamma` kept away from zero -/
def gd (x : EReal) : EReal := if 0 ≤ x then max x cLo else min x cNeg

/-- its reciprocal, and `gamma` over it -/
def gi (x : EReal) : EReal := Ideal.div 1 (gd x)
def wq (x : EReal) : EReal := Ideal.div x (gd x)

theorem gd_pos {x : EReal} (h : 0 ≤ x) : 0 < gd x := by
  rw [gd, if_pos h]; exact lt_of_lt_of_le cLo_pos (le_max_right _ _)

theorem gd_neg {x : EReal} (h : ¬ 0 ≤ x) : gd x < 0 := by
  rw [gd, if_neg h]; exact lt_of_le_of_lt (min_le_right _ _) cNeg_neg

theorem gd_ne (x : EReal) : gd x ≠ 0 := by
  by_cases h : 0 ≤ x
  · exact (gd_pos h).ne'
  · exact (gd_neg h).ne

theorem gi_eq (x : EReal) : gi x = (gd x)⁻¹ := by rw [gi, Ideal.div, if_neg (gd_ne x), one_mul]

theorem div_gd (y x : EReal) : Ideal.div y (gd x) = y * gi x := by rw [gi_eq, Ideal.div, if_neg (gd_ne x)]

theorem gi_nonneg {x : EReal} (h : 0 ≤ x) : NF (gi x) := by
  rw [gi_eq]
  exact ⟨EReal.inv_nonneg_of_nonneg (gd_pos h).le, (EReal.inv_lt_top _).ne⟩

theorem gi_nonpos {x : EReal} (h : ¬ 0 ≤ x) : NF (-gi x) := by
  rw [gi_eq, ← EReal.inv_neg]
  refine ⟨EReal.inv_nonneg_of_nonneg ?_, (EReal.inv_lt_top _).ne⟩
  rw [EReal.neg_nonneg]; exact (gd_neg h).le

theorem gi_real (x : EReal) : ∃ r : ℝ, gi x = r := by
  rw [gi_eq]
  exact ⟨((gd x)⁻¹).toReal, (EReal.coe_toReal (EReal.inv_lt_top _).ne (EReal.bot_lt_inv _).ne').symm⟩

theorem wq_eq (x : EReal) : wq x = x * gi x := div_gd x x

/-- `gamma / guard gamma` is finite: at an infinite `gamma` the reciprocal is zero -/
theorem wq_sub_self (x : EReal) : wq x - wq x = 0 := by
  have hr : ∃ r : ℝ, wq x = r := by
    rw [wq_eq]
    obtain ⟨g, hg⟩ := gi_real x
    induction x with
    | coe r => exact ⟨r * g, by rw [hg, EReal.coe_mul]⟩
    | top =>
      refine ⟨0, ?_⟩
      rw [gi_eq, gd, if_pos le_top, max_eq_left le_top, EReal.inv_top, mul_zero, EReal.coe_zero]
    | bot =>
      refine ⟨0, ?_⟩
      rw [gi_eq, gd, if_neg (by simp), min_eq_left bot_le, EReal.inv_bot, mul_zero, EReal.coe_zero]
  obtain ⟨r, hr⟩ := hr
  rw [hr]; exact EReal.sub_self (EReal.coe_ne_top r) (EReal.coe_ne_bot r)

/-! ## The two results, algebraically -/

/-- one element of `dx`: the reference's expression is the kernel's -/
theorem dx_alg {n : ℕ} (y ys dy dys rstd γ : EReal) (hdys : NF dys) (hrstd : NF rstd) (Y YS DY G : Fin n → EReal) :
    rstd * (dy * dys * γ - Ideal.div (y * ys) (gd γ) * Ideal.div (∑ k, DY k * dys * G k * Ideal.div (Y k * YS k) (gd (G k))) cD)
      = dy * (dys * rstd * γ) - y * (ys * ((∑ k, Y k * DY k * wq (G k) * YS k) * (rstd * dys * cInv)) * gi γ) := by
  have hs : ∑ k, DY k * dys * G k * Ideal.div (Y k * YS k) (gd (G k)) = dys * ∑ k, Y k * DY k * wq (G k) * YS k := by
    rw [hdys.mul_sum]
    refine Finset.sum_congr rfl fun k _ => ?_
    rw [div_gd, wq_eq]; ac_rfl
  rw [hs, div_cD, div_gd, hrstd.mul_sub]
  generalize ∑ k, Y k * DY k * wq (G k) * YS k = S
  have e1 : rstd * (dy * dys * γ) = dy * (dys * rstd * γ) := by ac_rfl
  have e2 : rstd * (y * ys * gi γ * (dys * S * cInv)) = y * (ys * (S * (rstd * dys * cInv)) * gi γ) := by ac_rfl
  rw [e1, e2]

/-- one element of `dgamma`: the reference's sum of `dy * x_hat` is the kernel's sum times the reciprocal -/
theorem dg_alg {ι : Type*} (s : Finset ι) (Y YS DY DYS : ι → EReal) (γ : EReal) :
    (if 0 ≤ γ then ∑ i ∈ s, DY i * DYS i * Ideal.div (Y i * YS i) (gd γ)
      else 0 - ∑ i ∈ s, (0 - DY i * DYS i * Ideal.div (Y i * YS i) (gd γ)))
      = (∑ i ∈ s, YS i * DYS i * (Y i * DY i)) * gi γ := by
  have ht : ∀ i, DY i * DYS i * Ideal.div (Y i * YS i) (gd γ) = YS i * DYS i * (Y i * DY i) * gi γ := fun i => by
    rw [div_gd]; ac_rfl
  simp only [ht]
  by_cases h : 0 ≤ γ
  · rw [if_pos h, (gi_nonneg h).sum_mul]
  · rw [if_neg h]
    have hn : ∀ i, 0 - YS i * DYS i * (Y i * DY i) * gi γ = YS i * DYS i * (Y i * DY i) * -gi γ := fun i => by
      rw [zero_sub, mul_comm _ (-gi γ), EReal.neg_mul, mul_comm (gi γ)]
    simp only [hn]
    rw [← (gi_nonpos h).sum_mul, zero_sub, mul_comm _ (-gi γ), EReal.neg_mul, neg_neg, mul_comm]

/-- the row sum the kernel takes block by block: a block's sum times its scale -/
theorem csum_alg {n : ℕ} (B : Fin n → EReal) (hB : ∀ b, NF (B b)) {ι : Type*} (s : Finset ι) (blk : ι → Fin n) (p w : ι → EReal) :
    ∑ b : Fin n, (∑ k ∈ s, p k * (if blk k = b then w k else 0)) * B b = ∑ k ∈ s, p k * w k * B (blk k) := by
  classical
  rw [Finset.sum_congr rfl fun b _ => (hB b).sum_mul s _, Finset.sum_comm]
  refine Finset.sum_congr rfl fun k _ => ?_
  rw [Finset.sum_eq_single (blk k)]
  · rw [if_pos rfl]
  · intro b _ hb; rw [if_neg (Ne.symm hb), mul_zero, zero_mul]
  · intro h; exact absurd (Finset.mem_univ _) h

/-! ## The closed form of the two results, over the arguments as functions -/

/-- the scale block of a channel -/
def blk (k : Fin 4096) : Fin 32 := ⟨k.val / 128, by omega⟩

/-- a row's sum of `g * x_hat`, before the token factor `dys` -/
def csum (Y DY : Fin 4096 → EReal) (YS : Fin 32 → EReal) (G : Fin 4096 → EReal) : EReal :=
  ∑ k, Y k * DY k * wq (G k) * YS (blk k)

/-- `dx` of a row -/
def dxRow (Y DY : Fin 4096 → EReal) (YS : Fin 32 → EReal) (dys rstd : EReal) (G : Fin 4096 → EReal) (k : Fin 4096) : EReal :=
  DY k * (dys * rstd * G k) - Y k * (YS (blk k) * (csum Y DY YS G * (rstd * dys * cInv)) * gi (G k))

/-- one token's part of `dgamma`, before the reciprocal -/
def dgTok (y dy ys dys : EReal) : EReal := ys * dys * (y * dy)

end Cert.Alg

end
-- ==== Proof.PayVal.lean ====
/- The kernel's payloads read at an index, on the extended reals. -/
module

public import proofs.«01_k».proof.Proof.Pieces
public import proofs.«01_k».proof.Proof.Alg
public import Idealize.ShloMosaic.Lib.Pointwise
public import Idealize.ShloMosaic.Lib.Pipeline.ValueKit

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Alg

theorem sChain_at (y : Fin 16 → Vec Ideal S1x256x256 .fp8e4m3) (dy : Fin 16 → Vec Ideal S1x256x256 .fp8e5m2) (w : Fin 16 → Vec Ideal S128x256 .bf16)
    (q : Fin 256) (l : Fin 128) : ∀ (n : Nat) (h : n ≤ 16), sChain (F := Ideal) y dy w n h (ix2 q l)
      = ∑ t : Fin n, ∑ k : Fin 256, (show EReal from y (t.castLE h) (ix3 0 q k)) * (show EReal from dy (t.castLE h) (ix3 0 q k)) * (show EReal from w (t.castLE h) (ix2 l k))
  | 0, _ => by
    pointwise [sChain]
    rfl
  | n + 1, h => by
    have ih := sChain_at y dy w q l n (Nat.le_of_succ_le h)
    rw [Fin.sum_univ_castSucc]
    pointwise [sChain, k0_pay44, ih]
    rfl

theorem tok_at (ys : Vec Ideal S1x32x256 .f32) (dys rstd : Vec Ideal S1x256 .f32) (q : Fin 256) (l : Fin 128) :
    tokOf (F := Ideal) ys dys rstd (ix2 q l)
      = if h : l.val < 96 then (show EReal from ys (ix3 0 ⟨l.val % 32, by omega⟩ q)) else
        if l.val < 104 then (show EReal from dys (ix2 0 q)) * (show EReal from rstd (ix2 0 q))
        else (show EReal from rstd (ix2 0 q)) * (show EReal from dys (ix2 0 q)) * cInv := by
  pointwise [tokOf, k0_pay42, k0_pay41]
  have hl := l.isLt
  by_cases h1 : l.val < 32
  · have h2 : l.val < 96 := by omega
    have h3 : (⟨l.val % 32, by omega⟩ : Fin 32) = ⟨l.val, h1⟩ := Fin.ext (Nat.mod_eq_of_lt h1)
    rw [dif_pos h1, dif_pos h2, h3]
  · rw [dif_neg h1]
    by_cases h2 : l.val - 32 < 32
    · have h4 : l.val < 96 := by omega
      have h3 : (⟨l.val % 32, by omega⟩ : Fin 32) = ⟨l.val - 32, h2⟩ := Fin.ext (by show l.val % 32 = l.val - 32; omega)
      rw [dif_pos h2, dif_pos h4, h3]
    · rw [dif_neg h2]
      by_cases h5 : l.val - 32 - 32 < 32
      · have h4 : l.val < 96 := by omega
        have h3 : (⟨l.val % 32, by omega⟩ : Fin 32) = ⟨l.val - 32 - 32, h5⟩ := Fin.ext (by show l.val % 32 = l.val - 32 - 32; omega)
        rw [dif_pos h5, dif_pos h4, h3]
      · have h4 : ¬ l.val < 96 := by omega
        rw [dif_neg h5, dif_neg h4]
        by_cases h6 : l.val < 104
        · rw [dif_pos (by omega), if_pos h6]
        · rw [dif_neg (by omega), if_neg h6]

theorem a_at (ys : Vec Ideal S1x32x256 .f32) (dys rstd : Vec Ideal S1x256 .f32) (q : Fin 256) (l : Fin 128) :
    aOf (F := Ideal) ys dys rstd (ix2 q l) = tokOf (F := Ideal) ys dys rstd (ix2 q 96) := by
  pointwise [aOf, k0_pay97]

theorem lane_lt (x : Fin 128) (a b : EReal) : Scalar.select (IntOp.cmpi CmpIPredicate.slt (BitVec.ofNat 32 x.val) 96#32) a b = if x.val < 96 then a else b := by
  have h : ∀ x : Fin 128, IntOp.cmpi CmpIPredicate.slt (BitVec.ofNat 32 x.val) 96#32 = BitVec.ofBool (decide (x.val < 96)) := by decide
  rw [h x]
  by_cases hx : x.val < 96
  · simp [hx, Scalar.select]
  · simp [hx, Scalar.select]

theorem sum_lanes (f : Fin 128 → EReal) : (∑ x : Fin 128, if x.val < 96 then f x else 0) = ∑ x : Fin 96, f (x.castLE (by omega)) := by
  refine (Fin.sum_univ_add (a := 96) (b := 32) (fun x : Fin (96 + 32) => if x.val < 96 then f x else 0)).trans ?_
  have h0 : ∑ x : Fin 32, (if (Fin.natAdd 96 x).val < 96 then f (Fin.natAdd 96 x) else 0) = 0 :=
    Finset.sum_eq_zero fun x _ => if_neg (by simp)
  rw [h0, add_zero]
  exact Finset.sum_congr rfl fun x _ => if_pos x.isLt

theorem coef_at (ys : Vec Ideal S1x32x256 .f32) (dys rstd : Vec Ideal S1x256 .f32) (y : Fin 16 → Vec Ideal S1x256x256 .fp8e4m3)
    (dy : Fin 16 → Vec Ideal S1x256x256 .fp8e5m2) (w : Fin 16 → Vec Ideal S128x256 .bf16) (q : Fin 256) (l : Fin 128) :
    coefOf (F := Ideal) ys dys rstd y dy w (ix2 q l)
      = tokOf (F := Ideal) ys dys rstd (ix2 q l) *
        ((∑ j : Fin 96, sChain (F := Ideal) y dy w 16 (Nat.le_refl 16) (ix2 q (j.castLE (by omega))) * tokOf (F := Ideal) ys dys rstd (ix2 q (j.castLE (by omega))))
          * tokOf (F := Ideal) ys dys rstd (ix2 q 104)) := by
  rw [← sum_lanes fun j => sChain (F := Ideal) y dy w 16 (Nat.le_refl 16) (ix2 q j) * tokOf (F := Ideal) ys dys rstd (ix2 q j)]
  simp only [← lane_lt]
  pointwise [coefOf, k0_pay96]

theorem dxPay_at (coef a : FVec Ideal S256x128 .f32) (b : Fin 32) (dy : Vec Ideal S1x256x128 .fp8e5m2) (γ : Vec Ideal S1x128 .f32)
    (y : Vec Ideal S1x256x128 .fp8e4m3) (gi : Vec Ideal S1x128 .f32) (q : Fin 256) (k : Fin 128) :
    dxPay (F := Ideal) coef a b dy γ y gi (ix3 0 q k)
      = (show EReal from dy (ix3 0 q k)) * (a (ix2 q k) * (show EReal from γ (ix2 0 k)))
        - (show EReal from y (ix3 0 q k)) * (coef (ix2 q ⟨b.val, by omega⟩) * (show EReal from gi (ix2 0 k))) := by
  pointwise [dxPay, k0_pay100]

theorem accPay_at (at' : FVec Ideal S96x256 .bf16) (t : Fin 16) (y : Vec Ideal S1x256x256 .fp8e4m3) (dy : Vec Ideal S1x256x256 .fp8e5m2)
    (prev : Vec Ideal S8x256 .f32) (r : Fin 8) (k : Fin 256) :
    accPay (F := Ideal) at' t y dy prev (ix2 r k) = (show EReal from prev (ix2 r k)) +
      ((∑ q : Fin 256, at' (ix2 ⟨t.val * 2 / 8 * 8 + r.val, by omega⟩ q) * ((show EReal from y (ix3 0 q k)) * (show EReal from dy (ix3 0 q k)))
        + ∑ q : Fin 256, at' (ix2 ⟨32 + t.val * 2 / 8 * 8 + r.val, by omega⟩ q) * ((show EReal from y (ix3 0 q k)) * (show EReal from dy (ix3 0 q k))))
        + ∑ q : Fin 256, at' (ix2 ⟨64 + t.val * 2 / 8 * 8 + r.val, by omega⟩ q) * ((show EReal from y (ix3 0 q k)) * (show EReal from dy (ix3 0 q k)))) := by
  pointwise [accPay, k0_pay44]

theorem at_at (ys : Vec Ideal S1x32x256 .f32) (dys : Vec Ideal S1x256 .f32) (r : Fin 96) (q : Fin 256) :
    k0_pay43 (F := Ideal) (k0_pay41 ys) dys (ix2 r q) =
      (have x : EReal := (show EReal from ys (ix3 0 ⟨r.val % 32, by omega⟩ q)) * (show EReal from dys (ix2 0 q))
       if r.val < 32 then x else if r.val < 64 then x - x else x - x - (x - x)) := by
  pointwise [k0_pay43, k0_pay41]
  have hr := r.isLt
  by_cases h1 : r.val < 32
  · have h3 : (⟨r.val % 32, by omega⟩ : Fin 32) = ⟨r.val, h1⟩ := Fin.ext (Nat.mod_eq_of_lt h1)
    rw [dif_pos h1, if_pos h1, h3]
  · rw [dif_neg h1, if_neg h1]
    by_cases h2 : r.val < 64
    · have h3 : (⟨r.val % 32, by omega⟩ : Fin 32) = ⟨r.val - 32, by omega⟩ := Fin.ext (by show r.val % 32 = r.val - 32; omega)
      rw [dif_pos (by omega), if_pos h2, h3]
    · have h3 : (⟨r.val % 32, by omega⟩ : Fin 32) = ⟨r.val - 32 - 32, by omega⟩ := Fin.ext (by show r.val % 32 = r.val - 32 - 32; omega)
      rw [dif_neg (by omega), if_neg h2, h3]

theorem guard_at (γ : Vec Ideal S1x4096 .f32) (k : Fin 4096) : k0_pay8 (F := Ideal) γ (ix2 0 k) = gd (show EReal from γ (ix2 0 k)) := by
  pointwise [k0_pay8, k0_pay7, gd]

theorem ginv_at (γ : Vec Ideal S1x4096 .f32) (k : Fin 4096) : k0_pay9 (F := Ideal) γ (ix2 0 k) = gi (show EReal from γ (ix2 0 k)) := by
  have h := guard_at γ k
  pointwise [k0_pay9, gi, h]

/-- the floor division of a channel by 128, as the program spells it on words -/
theorem own_word : ∀ k : Fin 4096, Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 k.val) 128#32) 0#32))
        (IntOp.subi (IntOp.divsi ArithUnit.vector (BitVec.ofNat 32 k.val) 128#32) 1#32)
        (IntOp.divsi ArithUnit.vector (BitVec.ofNat 32 k.val) 128#32) = BitVec.ofNat 32 (k.val / 128) := by
  decide +kernel

theorem lane_eq : ∀ l b : Fin 32, IntOp.cmpi CmpIPredicate.eq (BitVec.ofNat 32 l.val) (BitVec.ofNat 32 b.val) = BitVec.ofBool (decide (b.val = l.val)) := by
  decide +kernel

theorem own_at (l : Fin 32) (k : Fin 4096) : k0_pay11 (ix2 l k) = BitVec.ofBool (decide (k.val / 128 = l.val)) := by
  pointwise [k0_pay11]
  rw [own_word k]
  exact lane_eq l ⟨k.val / 128, by omega⟩

/-- the matmul's weight tile: `gamma / guard gamma` in the lane of the channel's scale block, zero elsewhere -/
theorem wt_at (γ : Vec Ideal S1x4096 .f32) (l : Fin 128) (k : Fin 4096) : k0_pay39 (F := Ideal) (k0_pay10 γ) k0_pay11 (ix2 l k)
    = if k.val / 128 = l.val then wq (show EReal from γ (ix2 0 k)) else 0 := by
  have h := guard_at γ k
  have ho := fun l => own_at l k
  pointwise [k0_pay39, k0_pay10, k0_pay7, h, ho]
  have hz : ∀ (p : Prop) [Decidable p] (x : EReal), x - x = 0 → (if p then x else 0) - (if p then x else 0) = 0 := fun p _ x hx => by
    by_cases hp : p
    · rw [if_pos hp, hx]
    · rw [if_neg hp, sub_zero]
  have hw := wq_sub_self (γ (ix2 0 k))
  have hk := k.isLt
  by_cases h1 : l.val < 32
  · rw [dif_pos h1]; rfl
  · rw [dif_neg h1, if_neg (by omega : ¬ k.val / 128 = l.val)]
    by_cases h2 : l.val - 32 < 32
    · rw [dif_pos h2]; exact hz _ _ hw
    · rw [dif_neg h2]
      by_cases h3 : l.val - 32 - 32 < 32
      · rw [dif_pos h3]
        have hx := hz (k.val / 128 = l.val - 32 - 32) _ hw
        refine (congrArg₂ (· - ·) hx hx).trans ?_
        exact sub_zero 0
      · rw [dif_neg h3]

theorem zero_at (l : Fin 8) (k : Fin 4096) : k0_pay40 (F := Ideal) (ix2 l k) = 0 := by
  pointwise [k0_pay40]

end Cert.KernelIdeal.Pieces

end
-- ==== Proof.Point.lean ====
/- The value of one grid point's pieces, on the extended reals: what its loads read, the coefficients, the blocks of
   `dx`, and the accumulator after all its stores. -/
module

public import proofs.«01_k».proof.Proof.PayVal

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Alg

/-! ## The loads -/

theorem off1 (i : grid0.Coords) (g : Fin 2) : k0_off1 i (BitVec.ofNat 32 (256 * g.val)) = ![(i 0).val / 16, 512 * ((i 0).val % 16) + 256 * g.val] := by
  revert i g; decide +kernel

/-- a whole memory's contents, loaded -/
theorem readAt_unread {S : Shape} {e : EltTy} (arg : Memref sig .tc .vmem S e) (harg : arg.IsWhole) (x : Vec Ideal S e) (r : Rect S) :
    View.readAt (Elt Ideal) arg.view r.toLoadRect (harg.unread x) = View.ld x r := by
  rw [View.readAt_eq_ld, harg.read_unread]

/-- the row of a group's token -/
def row (g : Fin 2) (q : Fin 256) : Fin 512 := ⟨256 * g.val + q.val, by omega⟩
/-- the channel of a tile's column, of a block's column -/
def colT (t : Fin 16) (k : Fin 256) : Fin 4096 := ⟨256 * t.val + k.val, by omega⟩
def colB (b : Fin 32) (k : Fin 128) : Fin 4096 := ⟨128 * b.val + k.val, by omega⟩

theorem ld128_at {e : EltTy} (x : Vec Ideal S1x512x4096 e) (g : Fin 2) (b : Fin 32) (q : Fin 256) (k : Fin 128) :
    View.ld x (rY128 g b) (ix3 0 q k) = x (ix3 0 (row g q) (colB b k)) := by
  pointwise []
  rfl

theorem ld256_at {e : EltTy} (x : Vec Ideal S1x512x4096 e) (g : Fin 2) (t : Fin 16) (q : Fin 256) (k : Fin 256) :
    View.ld x (rY256 g t) (ix3 0 q k) = x (ix3 0 (row g q) (colT t k)) := by
  pointwise []
  rfl

theorem ldRow_at (x : Vec Ideal S1x4096 .f32) (b : Fin 32) (k : Fin 128) : View.ld x (rRow b) (ix2 0 k) = x (ix2 0 (colB b k)) := by
  pointwise []
  rfl

theorem ldWt_at (x : Vec Ideal S128x4096 .bf16) (t : Fin 16) (l : Fin 128) (k : Fin 256) : View.ld x (rWt t) (ix2 l k) = x (ix2 l (colT t k)) := by
  pointwise []
  rfl

theorem ldAcc_at (x : Vec Ideal S8x4096 .f32) (t : Fin 16) (r : Fin 8) (k : Fin 256) : View.ld x (rAcc t) (ix2 r k) = x (ix2 r (colT t k)) := by
  pointwise []
  rfl

theorem ldAccRow_at (x : Vec Ideal S8x4096 .f32) (b : Fin 32) (k : Fin 128) :
    View.ld x (rAccRow b) (ix2 0 k) = x (ix2 ⟨b.val % 8, by omega⟩ (colB b k)) := by
  pointwise []
  rfl

/-- the batch and the first row of a point -/
def batch (i : grid0.Coords) : Fin 4 := ⟨(i 0).val / 16, by have h : (i 0).val < 64 := (i 0).isLt; omega⟩
def tokn (i : grid0.Coords) (s : Fin 512) : Fin 8192 := ⟨512 * ((i 0).val % 16) + s.val, by omega⟩

variable (arg1 : Memref sig .tc .vmem S1x32x512 .f32) (harg1 : arg1.IsWhole) (arg2 : Memref sig .tc .vmem S1x512x4096 .fp8e4m3) (harg2 : arg2.IsWhole)
  (arg3 : Memref sig .tc .vmem S1x512x4096 .fp8e5m2) (harg3 : arg3.IsWhole) (arg4 : Memref sig .tc .vmem S4x8192 .f32) (harg4 : arg4.IsWhole)
  (arg5 : Memref sig .tc .vmem S4x8192 .f32) (harg5 : arg5.IsWhole) (arg6 : Memref sig .tc .vmem S1x4096 .f32) (harg6 : arg6.IsWhole)
  (x0 : Vec Ideal S1x32x512 .f32) (x1 : Vec Ideal S1x512x4096 .fp8e4m3) (x2 : Vec Ideal S1x512x4096 .fp8e5m2) (x3 x4 : Vec Ideal S4x8192 .f32) (x5 : Vec Ideal S1x4096 .f32)
  (i : grid0.Coords)

theorem ldYs_at (g : Fin 2) (b : Fin 32) (q : Fin 256) : ldYs arg1 harg1 x0 g (ix3 0 b q) = x0 (ix3 0 b (row g q)) := by
  rw [ldYs, readAt_unread]
  pointwise []
  rfl

theorem ldTok_at (g : Fin 2) (q : Fin 256) : ldTok arg4 harg4 x3 i g (ix2 0 q) = x3 (ix2 (batch i) (tokn i (row g q))) := by
  rw [ldTok, readAt_unread]
  show x3 _ = x3 _
  congr 1
  funext a
  apply Fin.ext
  have h := off1 i g
  match a with
  | ⟨0, _⟩ =>
    have h0 := congrFun h 0
    show k0_off1 i (BitVec.ofNat 32 (256 * g.val)) 0 + 1 * 0 = (i 0).val / 16
    rw [h0]; rfl
  | ⟨1, _⟩ =>
    have h1 := congrFun h 1
    show k0_off1 i (BitVec.ofNat 32 (256 * g.val)) 1 + 1 * q.val = 512 * ((i 0).val % 16) + (256 * g.val + q.val)
    rw [h1]
    show 512 * ((i 0).val % 16) + 256 * g.val + 1 * q.val = _
    omega

/-! ## Sums over tiles -/

theorem sum_tiles (f : Fin 4096 → EReal) : ∑ t : Fin 16, ∑ k : Fin 256, f (colT t k) = ∑ c, f c := by
  rw [← Fintype.sum_prod_type' (fun (t : Fin 16) (k : Fin 256) => f (colT t k))]
  refine Fintype.sum_equiv (finProdFinEquiv (m := 16) (n := 256)) _ _ fun p => ?_
  congr 1
  apply Fin.ext
  show 256 * p.1.val + p.2.val = p.2.val + 256 * p.1.val
  omega

theorem sum_groups (f : Fin 512 → EReal) : (∑ q : Fin 256, f (row 0 q)) + ∑ q : Fin 256, f (row 1 q) = ∑ s, f s := by
  rw [← Fin.sum_univ_two (fun g : Fin 2 => ∑ q : Fin 256, f (row g q)), ← Fintype.sum_prod_type' (fun (g : Fin 2) (q : Fin 256) => f (row g q))]
  refine Fintype.sum_equiv (finProdFinEquiv (m := 2) (n := 256)) _ _ fun p => ?_
  congr 1
  apply Fin.ext
  show 256 * p.1.val + p.2.val = p.2.val + 256 * p.1.val
  omega

/-- a 96-lane sum whose last 64 lanes vanish -/
theorem sum_first32 (f : Fin 96 → EReal) (h : ∀ j : Fin 96, 32 ≤ j.val → f j = 0) : ∑ j, f j = ∑ b : Fin 32, f (b.castLE (by omega)) := by
  refine (Fin.sum_univ_add (a := 32) (b := 64) f).trans ?_
  have h0 : ∑ x : Fin 64, f (Fin.natAdd 32 x) = 0 := Finset.sum_eq_zero fun x _ => h _ (by simp)
  rw [h0, add_zero]
  rfl

/-! ## The point's data as functions -/

abbrev Yr (s : Fin 512) : Fin 4096 → EReal := fun c => x1 (ix3 0 s c)
abbrev DYr (s : Fin 512) : Fin 4096 → EReal := fun c => x2 (ix3 0 s c)
abbrev YSr (s : Fin 512) : Fin 32 → EReal := fun b => x0 (ix3 0 b s)
abbrev TKr (s : Fin 512) : EReal := x3 (ix2 (batch i) (tokn i s))
abbrev Gr : Fin 4096 → EReal := fun c => x5 (ix2 0 c)

/-- what the weight tiles must hold -/
def WtOk (w : Fin 16 → Vec Ideal S128x256 .bf16) : Prop :=
  ∀ (t : Fin 16) (l : Fin 128) (k : Fin 256), w t (ix2 l k) = if (colT t k).val / 128 = l.val then wq (Gr x5 (colT t k)) else 0

/-! ## The coefficients -/

theorem coefG_at (w : Fin 16 → Vec Ideal S128x256 .bf16) (hw : WtOk x5 w) (hys : ∀ b s, NF (YSr x0 s b)) (g : Fin 2) (q : Fin 256) (l : Fin 32) :
    coefG arg1 harg1 arg2 harg2 arg3 harg3 arg4 harg4 arg5 harg5 x0 x1 x2 x3 x4 i w g (ix2 q ⟨l.val, by omega⟩)
      = YSr x0 (row g q) l * (csum (Yr x1 (row g q)) (DYr x2 (row g q)) (YSr x0 (row g q)) (Gr x5)
          * (TKr x4 i (row g q) * TKr x3 i (row g q) * cInv)) := by
  have hS : ∀ l : Fin 128, sChain (F := Ideal) (fun t => View.readAt (Elt Ideal) arg2.view (rY256 g t).toLoadRect (harg2.unread x1))
      (fun t => View.readAt (Elt Ideal) arg3.view (rY256 g t).toLoadRect (harg3.unread x2)) w 16 (Nat.le_refl 16) (ix2 q l)
      = ∑ c, (Yr x1 (row g q) c * DYr x2 (row g q) c) * (if c.val / 128 = l.val then wq (Gr x5 c) else 0) := fun l => by
    rw [sChain_at, ← sum_tiles]
    refine Finset.sum_congr rfl fun t _ => Finset.sum_congr rfl fun k _ => ?_
    simp only [readAt_unread]
    show View.ld x1 (rY256 g t) (ix3 0 q k) * View.ld x2 (rY256 g t) (ix3 0 q k) * w t (ix2 l k) = _
    rw [ld256_at, ld256_at, hw t l k]
  have hT : ∀ j : Fin 96, tokOf (F := Ideal) (ldYs arg1 harg1 x0 g) (ldTok arg4 harg4 x3 i g) (ldTok arg5 harg5 x4 i g) (ix2 q (j.castLE (by omega)))
      = YSr x0 (row g q) ⟨j.val % 32, by omega⟩ := fun j => by
    rw [tok_at, dif_pos (by exact j.isLt)]
    exact ldYs_at arg1 harg1 x0 g _ q
  have h104 : tokOf (F := Ideal) (ldYs arg1 harg1 x0 g) (ldTok arg4 harg4 x3 i g) (ldTok arg5 harg5 x4 i g) (ix2 q 104)
      = TKr x4 i (row g q) * TKr x3 i (row g q) * cInv := by
    rw [tok_at, dif_neg (by decide), if_neg (by decide), ldTok_at, ldTok_at]
  rw [coefG, coefOf, show k0_pay96 (F := Ideal) _ _ = coefOf (F := Ideal) _ _ _ _ _ _ from rfl, coef_at, h104]
  have hl := hT ⟨l.val, by omega⟩
  rw [show (⟨l.val % 32, by omega⟩ : Fin 32) = l from Fin.ext (Nat.mod_eq_of_lt l.isLt)] at hl
  refine congrArg₂ (· * ·) hl (congrArg (· * _) ?_)
  refine (Finset.sum_congr rfl fun j _ => congrArg₂ (· * ·) (hS _) (hT j)).trans ?_
  rw [sum_first32]
  · rw [csum, ← csum_alg (YSr x0 (row g q)) (fun b => hys b _) Finset.univ blk (fun c => Yr x1 (row g q) c * DYr x2 (row g q) c) (fun c => wq (Gr x5 c))]
    refine Finset.sum_congr rfl fun b _ => congrArg₂ (· * ·) (Finset.sum_congr rfl fun c _ => ?_) ?_
    · congr 1
      refine if_congr ?_ rfl rfl
      exact ⟨fun h => Fin.ext h, fun h => congrArg Fin.val h⟩
    · exact congrArg _ (Fin.ext (Nat.mod_eq_of_lt b.isLt))
  · intro j hj
    rw [Finset.sum_eq_zero, zero_mul]
    intro c _
    rw [if_neg, mul_zero]
    have := c.isLt
    show ¬ c.val / 128 = j.val
    omega

theorem aG_at (g : Fin 2) (q : Fin 256) (l : Fin 128) :
    aG arg1 harg1 arg4 harg4 arg5 harg5 x0 x3 x4 i g (ix2 q l) = TKr x3 i (row g q) * TKr x4 i (row g q) := by
  rw [aG, a_at, tok_at, dif_neg (by decide), if_pos (by decide), ldTok_at, ldTok_at]

/-! ## `dx` -/

theorem dxL_at (w : Fin 16 → Vec Ideal S128x256 .bf16) (hw : WtOk x5 w) (hys : ∀ b s, NF (YSr x0 s b))
    (gv : Fin 32 → Vec Ideal S1x128 .f32) (hg : ∀ b k, gv b (ix2 0 k) = gi (Gr x5 (colB b k))) (s : Fin 512) (c : Fin 4096) :
    View.canon (dxL arg2 harg2 arg3 harg3 arg6 harg6 x1 x2 x5
      (coefG arg1 harg1 arg2 harg2 arg3 harg3 arg4 harg4 arg5 harg5 x0 x1 x2 x3 x4 i w 0)
      (aG arg1 harg1 arg4 harg4 arg5 harg5 x0 x3 x4 i 0)
      (coefG arg1 harg1 arg2 harg2 arg3 harg3 arg4 harg4 arg5 harg5 x0 x1 x2 x3 x4 i w 1)
      (aG arg1 harg1 arg4 harg4 arg5 harg5 x0 x3 x4 i 1) gv) (ix3 0 s c)
      = dxRow (Yr x1 s) (DYr x2 s) (YSr x0 s) (TKr x3 i s) (TKr x4 i s) (Gr x5) c := by
  have hpay : ∀ (g : Fin 2) (b : Fin 32) (q : Fin 256) (k : Fin 128),
      dxPay (F := Ideal) (coefG arg1 harg1 arg2 harg2 arg3 harg3 arg4 harg4 arg5 harg5 x0 x1 x2 x3 x4 i w g) (aG arg1 harg1 arg4 harg4 arg5 harg5 x0 x3 x4 i g) b
        (View.readAt (Elt Ideal) arg3.view (rY128 g b).toLoadRect (harg3.unread x2))
        (View.readAt (Elt Ideal) arg6.view (rRow b).toLoadRect (harg6.unread x5))
        (View.readAt (Elt Ideal) arg2.view (rY128 g b).toLoadRect (harg2.unread x1)) (gv b) (ix3 0 q k)
      = dxRow (Yr x1 (row g q)) (DYr x2 (row g q)) (YSr x0 (row g q)) (TKr x3 i (row g q)) (TKr x4 i (row g q)) (Gr x5) (colB b k) := fun g b q k => by
    rw [dxPay_at, aG_at, coefG_at arg1 harg1 arg2 harg2 arg3 harg3 arg4 harg4 arg5 harg5 x0 x1 x2 x3 x4 x5 i w hw hys g q b]
    simp only [readAt_unread]
    rw [ld128_at, ld128_at, ldRow_at, hg]
    have hb : blk (colB b k) = b := Fin.ext (by show (128 * b.val + k.val) / 128 = b.val; omega)
    rw [dxRow, hb]
  unfold dxL
  refine View.canon_ofFn_unit_eq_of_forall _ _ _ _ _ _ ?_ ?_
  · refine ⟨⟨(1 - s.val / 256) * 32 + (31 - c.val / 128), by omega⟩, fun a => ?_⟩
    have hs := s.isLt
    have hc := c.isLt
    match a with
    | ⟨0, _⟩ => exact ⟨le_refl 0, Nat.one_pos⟩
    | ⟨1, _⟩ =>
      show 256 * (1 - ((1 - s.val / 256) * 32 + (31 - c.val / 128)) / 32) ≤ s.val ∧ s.val < 256 * (1 - ((1 - s.val / 256) * 32 + (31 - c.val / 128)) / 32) + 256
      omega
    | ⟨2, _⟩ =>
      show 128 * (31 - ((1 - s.val / 256) * 32 + (31 - c.val / 128)) % 32) ≤ c.val ∧ c.val < 128 * (31 - ((1 - s.val / 256) * 32 + (31 - c.val / 128)) % 32) + 128
      omega
  · intro k
    tile_intro x h
    have hx : x = ix3 0 ⟨(x 1).val, x1_lt⟩ ⟨(x 2).val, x2_lt⟩ := by
      funext a; apply Fin.ext
      match a with
      | ⟨0, _⟩ => exact Nat.lt_one_iff.1 x0_lt
      | ⟨1, _⟩ => rfl
      | ⟨2, _⟩ => rfl
    have hs : s = row ⟨1 - k.val / 32, by omega⟩ ⟨(x 1).val, x1_lt⟩ := Fin.ext h1
    have hc : c = colB ⟨31 - k.val % 32, by omega⟩ ⟨(x 2).val, x2_lt⟩ := Fin.ext h2
    have key := hpay ⟨1 - k.val / 32, by omega⟩ ⟨31 - k.val % 32, by omega⟩ ⟨(x 1).val, x1_lt⟩ ⟨(x 2).val, x2_lt⟩
    rw [← hx, ← hs, ← hc] at key
    refine Eq.trans ?_ key
    by_cases hk : k.val < 32
    · have hg1 : (⟨1 - k.val / 32, by omega⟩ : Fin 2) = 1 := Fin.ext (by show 1 - k.val / 32 = 1; omega)
      rw [if_pos hk, if_pos hk, hg1]
    · have hg0 : (⟨1 - k.val / 32, by omega⟩ : Fin 2) = 0 := Fin.ext (by show 1 - k.val / 32 = 0; have := k.isLt; omega)
      rw [if_neg hk, if_neg hk, hg0]

/-! ## The accumulator -/

/-- what group `g` adds to the accumulator at row `r`, channel `c` -/
def accG (g : Fin 2) (r : Fin 8) (c : Fin 4096) : EReal :=
  ∑ q : Fin 256, dgTok (Yr x1 (row g q) c) (DYr x2 (row g q) c) (YSr x0 (row g q) ⟨c.val / 1024 * 8 + r.val, by omega⟩) (TKr x3 i (row g q))

/-- the residuals of an exact split vanish -/
theorem residual (p q : Prop) [Decidable p] [Decidable q] (x : EReal) (hz : x - x = 0) :
    (if p then x else if q then x - x else x - x - (x - x)) = if p then x else 0 := by
  rw [hz, sub_zero, ite_self]

theorem accPay_val (hys : ∀ b s, NF (YSr x0 s b)) (hds : ∀ s, NF (TKr x3 i s)) (g : Fin 2) (t : Fin 16) (prev : Vec Ideal S8x256 .f32) (r : Fin 8) (k : Fin 256) :
    accPay (F := Ideal) (atG arg1 harg1 arg4 harg4 x0 x3 i g) t
      (View.readAt (Elt Ideal) arg2.view (rY256 g t).toLoadRect (harg2.unread x1))
      (View.readAt (Elt Ideal) arg3.view (rY256 g t).toLoadRect (harg3.unread x2)) prev (ix2 r k)
      = (show EReal from prev (ix2 r k)) + accG x0 x1 x2 x3 i g r (colT t k) := by
  have hat : ∀ (n : Fin 96) (q : Fin 256), atG arg1 harg1 arg4 harg4 x0 x3 i g (ix2 n q)
      = if n.val < 32 then YSr x0 (row g q) ⟨n.val % 32, by omega⟩ * TKr x3 i (row g q) else 0 := fun n q => by
    rw [atG, at_at, ldYs_at, ldTok_at]
    exact residual _ _ _ ((hys ⟨n.val % 32, by omega⟩ (row g q)).mul (hds (row g q))).sub_self
  rw [accPay_at]
  simp only [readAt_unread]
  have hd : ∀ n : Fin 96, ¬ n.val < 32 → (∑ q : Fin 256, atG arg1 harg1 arg4 harg4 x0 x3 i g (ix2 n q) * ((show EReal from View.ld x1 (rY256 g t) (ix3 0 q k)) * (show EReal from View.ld x2 (rY256 g t) (ix3 0 q k)))) = 0 := fun n hn =>
    Finset.sum_eq_zero fun q _ => by rw [hat, if_neg hn, zero_mul]
  rw [hd ⟨32 + t.val * 2 / 8 * 8 + r.val, by omega⟩ (by show ¬ 32 + t.val * 2 / 8 * 8 + r.val < 32; omega),
    hd ⟨64 + t.val * 2 / 8 * 8 + r.val, by omega⟩ (by show ¬ 64 + t.val * 2 / 8 * 8 + r.val < 32; omega), add_zero, add_zero]
  refine congrArg _ ?_
  refine Finset.sum_congr rfl fun q _ => ?_
  have hlo : t.val * 2 / 8 * 8 + r.val < 32 := by omega
  rw [hat, if_pos hlo, ld256_at, ld256_at, dgTok]
  have hb : (⟨(t.val * 2 / 8 * 8 + r.val) % 32, by omega⟩ : Fin 32) = ⟨(colT t k).val / 1024 * 8 + r.val, by have := (colT t k).isLt; omega⟩ :=
    Fin.ext (by show (t.val * 2 / 8 * 8 + r.val) % 32 = (256 * t.val + k.val) / 1024 * 8 + r.val; omega)
  rw [hb]

/-- the accumulator's value after `n` of the 32 stores, from `base` -/
def accV (base : Fin 8 → Fin 4096 → EReal) (n : Nat) (r : Fin 8) (c : Fin 4096) : EReal :=
  if n ≤ c.val / 256 then base r c
  else if n ≤ 16 + c.val / 256 then base r c + accG x0 x1 x2 x3 i 0 r c
  else base r c + accG x0 x1 x2 x3 i 0 r c + accG x0 x1 x2 x3 i 1 r c

/-- the contents of the accumulator's first `n` stores: where the point found it written (`ok`) everywhere, else where it has stored -/
theorem accL_at (hys : ∀ b s, NF (YSr x0 s b)) (hds : ∀ s, NF (TKr x3 i s)) (base : Fin 8 → Fin 4096 → EReal) (ok : Prop)
    (L0 : List (View.Piece (Elt Ideal) S8x4096 .f32)) (h0 : ok → ∀ r c, View.canon L0 (ix2 r c) = base r c)
    (ld : Nat → Fin 16 → List (View.Piece (Elt Ideal) S8x4096 .f32) → Vec Ideal S8x256 .f32)
    (hb : ∀ n t L r k, n < 16 → ¬ ok → ld n t L (ix2 r k) = base r (colT t k))
    (hl : ∀ n t L r k, (ok ∨ 16 ≤ n) → ld n t L (ix2 r k) = View.canon L (ix2 r (colT t k))) :
    ∀ n, n ≤ 32 → ∀ r c, (ok ∨ c.val / 256 < n) →
      View.canon (accL arg2 harg2 arg3 harg3 x1 x2 (atG arg1 harg1 arg4 harg4 x0 x3 i 0) (atG arg1 harg1 arg4 harg4 x0 x3 i 1) ld L0 n) (ix2 r c)
        = accV x0 x1 x2 x3 i base n r c
  | 0, _, r, c, h => by
    have hok : ok := h.resolve_right (Nat.not_lt_zero _)
    rw [accV, if_pos (Nat.zero_le _)]
    exact h0 hok r c
  | n + 1, hn, r, c, h => by
    have ih := accL_at hys hds base ok L0 h0 ld hb hl n (by omega)
    rw [accL, accStep]
    have hc := c.isLt
    by_cases ht : c.val / 256 = n % 16
    · have hcc : c = colT ⟨n % 16, by omega⟩ ⟨c.val % 256, by omega⟩ := Fin.ext (by show c.val = 256 * (n % 16) + c.val % 256; omega)
      have hemb : (ix2 r c : S8x4096.Idx) = (rAcc ⟨n % 16, by omega⟩).emb (ix2 r ⟨c.val % 256, by omega⟩) := by
        funext a; apply Fin.ext
        match a with
        | ⟨0, _⟩ => show r.val = 0 + 1 * r.val; omega
        | ⟨1, _⟩ => show c.val = 256 * (n % 16) + 1 * (c.val % 256); omega
      rw [hemb, View.canon_cons_emb]
      have hg : (if n < 16 then atG arg1 harg1 arg4 harg4 x0 x3 i 0 else atG arg1 harg1 arg4 harg4 x0 x3 i 1)
          = atG arg1 harg1 arg4 harg4 x0 x3 i ⟨n / 16 % 2, by omega⟩ := by
        by_cases h16 : n < 16
        · rw [if_pos h16, show (⟨n / 16 % 2, by omega⟩ : Fin 2) = 0 from Fin.ext (by show n / 16 % 2 = 0; omega)]
        · rw [if_neg h16, show (⟨n / 16 % 2, by omega⟩ : Fin 2) = 1 from Fin.ext (by show n / 16 % 2 = 1; omega)]
      rw [hg, accPay_val arg1 harg1 arg2 harg2 arg3 harg3 arg4 harg4 x0 x1 x2 x3 i hys hds, ← hcc]
      have hprev : ld n ⟨n % 16, by omega⟩ (accL arg2 harg2 arg3 harg3 x1 x2 (atG arg1 harg1 arg4 harg4 x0 x3 i 0) (atG arg1 harg1 arg4 harg4 x0 x3 i 1) ld L0 n)
          (ix2 r ⟨c.val % 256, by omega⟩) = accV x0 x1 x2 x3 i base n r c := by
        by_cases hk : ok ∨ 16 ≤ n
        · rw [hl _ _ _ _ _ hk, ← hcc]
          exact ih r c (hk.imp_right fun h => by omega)
        · rw [hb _ _ _ _ _ (by omega) (fun h => hk (.inl h)), ← hcc, accV, if_pos (by omega)]
      refine (congrArg (· + _) hprev).trans ?_
      by_cases h16 : n < 16
      · rw [show (⟨n / 16 % 2, by omega⟩ : Fin 2) = 0 from Fin.ext (by show n / 16 % 2 = 0; omega), accV, accV, if_pos (by omega), if_neg (by omega), if_pos (by omega)]
      · rw [show (⟨n / 16 % 2, by omega⟩ : Fin 2) = 1 from Fin.ext (by show n / 16 % 2 = 1; omega), accV, accV, if_neg (by omega), if_pos (by omega), if_neg (by omega), if_neg (by omega)]
    · rw [View.canon_cons_of_not_mem]
      · rw [ih r c (h.imp_right fun h => by omega)]
        have e : ∀ m, (n + 1 ≤ m + c.val / 256 ↔ n ≤ m + c.val / 256) ∨ True := fun _ => .inr trivial
        rw [accV, accV]
        refine if_congr (by omega) rfl (if_congr (by omega) rfl rfl)
      · rw [Rect.mem_set_unit]
        intro hm
        have := hm ⟨1, by decide⟩
        have h2 : 256 * (n % 16) ≤ c.val ∧ c.val < 256 * (n % 16) + 256 := this
        omega

/-- a point's whole addition to the accumulator -/
def accP (r : Fin 8) (c : Fin 4096) : EReal :=
  ∑ s : Fin 512, dgTok (Yr x1 s c) (DYr x2 s c) (YSr x0 s ⟨c.val / 1024 * 8 + r.val, by omega⟩) (TKr x3 i s)

theorem accV_32 (base : Fin 8 → Fin 4096 → EReal) (r : Fin 8) (c : Fin 4096) :
    accV x0 x1 x2 x3 i base 32 r c = base r c + accP x0 x1 x2 x3 i r c := by
  have hc := c.isLt
  rw [accV, if_neg (by omega), if_neg (by omega), add_assoc, accP, ← sum_groups]
  rfl

end Cert.KernelIdeal.Pieces

end
-- ==== Proof.PiecesA.lean ====
/- Case A of the run: the pieces it writes are the families of Pieces. -/
module

public import proofs.«01_k».proof.Proof.Pieces

@[expose] public section

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S1x32x512 .f32) (harg1 : arg1.IsWhole) (arg2 : Memref sig .tc .vmem S1x512x4096 .fp8e4m3) (harg2 : arg2.IsWhole) (arg3 : Memref sig .tc .vmem S1x512x4096 .fp8e5m2) (harg3 : arg3.IsWhole)
  (arg4 : Memref sig .tc .vmem S4x8192 .f32) (harg4 : arg4.IsWhole) (arg5 : Memref sig .tc .vmem S4x8192 .f32) (harg5 : arg5.IsWhole) (arg6 : Memref sig .tc .vmem S1x4096 .f32) (harg6 : arg6.IsWhole) (arg7 : Memref sig .tc .vmem S1x512x4096 .bf16) (harg7 : arg7.IsWhole)
  (arg8 : Memref sig .tc .vmem S1x4096 .f32) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S8x4096 .f32) (harg11 : arg11.IsWhole)
  (hc0 : cond0_0 i) (hc1 : ¬cond0_1 i)
  (x0 : Vec F S1x32x512 .f32) (x1 : Vec F S1x512x4096 .fp8e4m3) (x2 : Vec F S1x512x4096 .fp8e5m2) (x3 x4 : Vec F S4x8192 .f32) (x5 : Vec F S1x4096 .f32)
  (xs0 : Vec F S128x4096 .bf16) (xs1 : Vec F S1x4096 .f32) (xs2 : Vec F S8x4096 .f32)

/-- the loads of `wt`, `ginv`; the accumulator's load -/
abbrev WA : Fin 16 → Vec F S128x256 .bf16 := fun t => arg9.view.readCov (kernelRun0_A.sl.HS0_1 c arg6 harg6 x5) (rWt t).toLoadRect
abbrev GIA : Fin 32 → Vec F S1x128 .f32 := fun b => arg10.view.readCov (kernelRun0_A.sl.HS1_1 c arg6 harg6 x5) (rRow b).toLoadRect
abbrev LDA : Nat → Fin 16 → List (View.Piece (Elt F) S8x4096 .f32) → Vec F S8x256 .f32 :=
  fun _ t L => arg11.view.readCov L (rAcc t).toLoadRect

theorem coef0A : kernelRun0_A.sl.r_28 c i arg1 harg1 arg2 harg2 arg3 harg3 arg4 harg4 arg5 harg5 arg6 harg6 arg9 x0 x1 x2 x3 x4 x5 = coefG arg1 harg1 arg2 harg2 arg3 harg3 arg4 harg4 arg5 harg5 x0 x1 x2 x3 x4 i (WA c arg6 harg6 arg9 x5) 0 := rfl

theorem coef1A : kernelRun0_A.sl.r_90 c i arg1 harg1 arg2 harg2 arg3 harg3 arg4 harg4 arg5 harg5 arg6 harg6 arg9 x0 x1 x2 x3 x4 x5 = coefG arg1 harg1 arg2 harg2 arg3 harg3 arg4 harg4 arg5 harg5 x0 x1 x2 x3 x4 i (WA c arg6 harg6 arg9 x5) 1 := rfl

theorem a0A : kernelRun0_A.sl.r_29 c i arg1 harg1 arg4 harg4 arg5 harg5 x0 x3 x4 = aG arg1 harg1 arg4 harg4 arg5 harg5 x0 x3 x4 i 0 := rfl

theorem a1A : kernelRun0_A.sl.r_91 c i arg1 harg1 arg4 harg4 arg5 harg5 x0 x3 x4 = aG arg1 harg1 arg4 harg4 arg5 harg5 x0 x3 x4 i 1 := rfl

theorem at0A : kernelRun0_A.sl.r_4 c i arg1 harg1 arg4 harg4 x0 x3 = atG arg1 harg1 arg4 harg4 x0 x3 i 0 := rfl

theorem at1A : kernelRun0_A.sl.r_70 c i arg1 harg1 arg4 harg4 x0 x3 = atG arg1 harg1 arg4 harg4 x0 x3 i 1 := rfl

/-- the pieces of `dx` -/
theorem dxA' : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1
    = dxL arg2 harg2 arg3 harg3 arg6 harg6 x1 x2 x5 (kernelRun0_A.sl.r_28 c i arg1 harg1 arg2 harg2 arg3 harg3 arg4 harg4 arg5 harg5 arg6 harg6 arg9 x0 x1 x2 x3 x4 x5) (kernelRun0_A.sl.r_29 c i arg1 harg1 arg4 harg4 arg5 harg5 x0 x3 x4) (kernelRun0_A.sl.r_90 c i arg1 harg1 arg2 harg2 arg3 harg3 arg4 harg4 arg5 harg5 arg6 harg6 arg9 x0 x1 x2 x3 x4 x5) (kernelRun0_A.sl.r_91 c i arg1 harg1 arg4 harg4 arg5 harg5 x0 x3 x4) (GIA c arg6 harg6 arg10 x5) := by
  unfold kernelRun0_A
  rfl

theorem dxA : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1
    = dxL arg2 harg2 arg3 harg3 arg6 harg6 x1 x2 x5
      (coefG arg1 harg1 arg2 harg2 arg3 harg3 arg4 harg4 arg5 harg5 x0 x1 x2 x3 x4 i (WA c arg6 harg6 arg9 x5) 0)
      (aG arg1 harg1 arg4 harg4 arg5 harg5 x0 x3 x4 i 0)
      (coefG arg1 harg1 arg2 harg2 arg3 harg3 arg4 harg4 arg5 harg5 x0 x1 x2 x3 x4 i (WA c arg6 harg6 arg9 x5) 1)
      (aG arg1 harg1 arg4 harg4 arg5 harg5 x0 x3 x4 i 1) (GIA c arg6 harg6 arg10 x5) := by
  rw [dxA', coef0A, coef1A, a0A, a1A]

/-- the pieces of the accumulator, store by store -/
theorem accA' : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1
    = accL arg2 harg2 arg3 harg3 x1 x2 (kernelRun0_A.sl.r_4 c i arg1 harg1 arg4 harg4 x0 x3) (kernelRun0_A.sl.r_70 c i arg1 harg1 arg4 harg4 x0 x3) (LDA arg11) kernelRun0_A.sl.HS2_1 32 := by
  let step := accStep arg2 harg2 arg3 harg3 x1 x2 (kernelRun0_A.sl.r_4 c i arg1 harg1 arg4 harg4 x0 x3) (kernelRun0_A.sl.r_70 c i arg1 harg1 arg4 harg4 x0 x3) (LDA arg11)
  have e33 : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 = step 31 (kernelRun0_A.sl.HS2_32 c i arg1 harg1 arg2 harg2 arg3 harg3 arg4 harg4 arg11 x0 x1 x2 x3) := by unfold kernelRun0_A; rfl
  have e32 : kernelRun0_A.sl.HS2_32 c i arg1 harg1 arg2 harg2 arg3 harg3 arg4 harg4 arg11 x0 x1 x2 x3 = step 30 (kernelRun0_A.sl.HS2_31 c i arg1 harg1 arg2 harg2 arg3 harg3 arg4 harg4 arg11 x0 x1 x2 x3) := rfl
  have e31 : kernelRun0_A.sl.HS2_31 c i arg1 harg1 arg2 harg2 arg3 harg3 arg4 harg4 arg11 x0 x1 x2 x3 = step 29 (kernelRun0_A.sl.HS2_30 c i arg1 harg1 arg2 harg2 arg3 harg3 arg4 harg4 arg11 x0 x1 x2 x3) := rfl
  have e30 : kernelRun0_A.sl.HS2_30 c i arg1 harg1 arg2 harg2 arg3 harg3 arg4 harg4 arg11 x0 x1 x2 x3 = step 28 (kernelRun0_A.sl.HS2_29 c i arg1 harg1 arg2 harg2 arg3 harg3 arg4 harg4 arg11 x0 x1 x2 x3) := rfl
  have e29 : kernelRun0_A.sl.HS2_29 c i arg1 harg1 arg2 harg2 arg3 harg3 arg4 harg4 arg11 x0 x1 x2 x3 = step 27 (kernelRun0_A.sl.HS2_28 c i arg1 harg1 arg2 harg2 arg3 harg3 arg4 harg4 arg11 x0 x1 x2 x3) := rfl
  have e28 : kernelRun0_A.sl.HS2_28 c i arg1 harg1 arg2 harg2 arg3 harg3 arg4 harg4 arg11 x0 x1 x2 x3 = step 26 (kernelRun0_A.sl.HS2_27 c i arg1 harg1 arg2 harg2 arg3 harg3 arg4 harg4 arg11 x0 x1 x2 x3) := rfl
  have e27 : kernelRun0_A.sl.HS2_27 c i arg1 harg1 arg2 harg2 arg3 harg3 arg4 harg4 arg11 x0 x1 x2 x3 = step 25 (kernelRun0_A.sl.HS2_26 c i arg1 harg1 arg2 harg2 arg3 harg3 arg4 harg4 arg11 x0 x1 x2 x3) := rfl
  have e26 : kernelRun0_A.sl.HS2_26 c i arg1 harg1 arg2 harg2 arg3 harg3 arg4 harg4 arg11 x0 x1 x2 x3 = step 24 (kernelRun0_A.sl.HS2_25 c i arg1 harg1 arg2 harg2 arg3 harg3 arg4 harg4 arg11 x0 x1 x2 x3) := rfl
  have e25 : kernelRun0_A.sl.HS2_25 c i arg1 harg1 arg2 harg2 arg3 harg3 arg4 harg4 arg11 x0 x1 x2 x3 = step 23 (kernelRun0_A.sl.HS2_24 c i arg1 harg1 arg2 harg2 arg3 harg3 arg4 harg4 arg11 x0 x1 x2 x3) := rfl
  have e24 : kernelRun0_A.sl.HS2_24 c i arg1 harg1 arg2 harg2 arg3 harg3 arg4 harg4 arg11 x0 x1 x2 x3 = step 22 (kernelRun0_A.sl.HS2_23 c i arg1 harg1 arg2 harg2 arg3 harg3 arg4 harg4 arg11 x0 x1 x2 x3) := rfl
  have e23 : kernelRun0_A.sl.HS2_23 c i arg1 harg1 arg2 harg2 arg3 harg3 arg4 harg4 arg11 x0 x1 x2 x3 = step 21 (kernelRun0_A.sl.HS2_22 c i arg1 harg1 arg2 harg2 arg3 harg3 arg4 harg4 arg11 x0 x1 x2 x3) := rfl
  have e22 : kernelRun0_A.sl.HS2_22 c i arg1 harg1 arg2 harg2 arg3 harg3 arg4 harg4 arg11 x0 x1 x2 x3 = step 20 (kernelRun0_A.sl.HS2_21 c i arg1 harg1 arg2 harg2 arg3 harg3 arg4 harg4 arg11 x0 x1 x2 x3) := rfl
  have e21 : kernelRun0_A.sl.HS2_21 c i arg1 harg1 arg2 harg2 arg3 harg3 arg4 harg4 arg11 x0 x1 x2 x3 = step 19 (kernelRun0_A.sl.HS2_20 c i arg1 harg1 arg2 harg2 arg3 harg3 arg4 harg4 arg11 x0 x1 x2 x3) := rfl
  have e20 : kernelRun0_A.sl.HS2_20 c i arg1 harg1 arg2 harg2 arg3 harg3 arg4 harg4 arg11 x0 x1 x2 x3 = step 18 (kernelRun0_A.sl.HS2_19 c i arg1 harg1 arg2 harg2 arg3 harg3 arg4 harg4 arg11 x0 x1 x2 x3) := rfl
  have e19 : kernelRun0_A.sl.HS2_19 c i arg1 harg1 arg2 harg2 arg3 harg3 arg4 harg4 arg11 x0 x1 x2 x3 = step 17 (kernelRun0_A.sl.HS2_18 c i arg1 harg1 arg2 harg2 arg3 harg3 arg4 harg4 arg11 x0 x1 x2 x3) := rfl
  have e18 : kernelRun0_A.sl.HS2_18 c i arg1 harg1 arg2 harg2 arg3 harg3 arg4 harg4 arg11 x0 x1 x2 x3 = step 16 (kernelRun0_A.sl.HS2_17 c i arg1 harg1 arg2 harg2 arg3 harg3 arg4 harg4 arg11 x0 x1 x2 x3) := rfl
  have e17 : kernelRun0_A.sl.HS2_17 c i arg1 harg1 arg2 harg2 arg3 harg3 arg4 harg4 arg11 x0 x1 x2 x3 = step 15 (kernelRun0_A.sl.HS2_16 c i arg1 harg1 arg2 harg2 arg3 harg3 arg4 harg4 arg11 x0 x1 x2 x3) := rfl
  have e16 : kernelRun0_A.sl.HS2_16 c i arg1 harg1 arg2 harg2 arg3 harg3 arg4 harg4 arg11 x0 x1 x2 x3 = step 14 (kernelRun0_A.sl.HS2_15 c i arg1 harg1 arg2 harg2 arg3 harg3 arg4 harg4 arg11 x0 x1 x2 x3) := rfl
  have e15 : kernelRun0_A.sl.HS2_15 c i arg1 harg1 arg2 harg2 arg3 harg3 arg4 harg4 arg11 x0 x1 x2 x3 = step 13 (kernelRun0_A.sl.HS2_14 c i arg1 harg1 arg2 harg2 arg3 harg3 arg4 harg4 arg11 x0 x1 x2 x3) := rfl
  have e14 : kernelRun0_A.sl.HS2_14 c i arg1 harg1 arg2 harg2 arg3 harg3 arg4 harg4 arg11 x0 x1 x2 x3 = step 12 (kernelRun0_A.sl.HS2_13 c i arg1 harg1 arg2 harg2 arg3 harg3 arg4 harg4 arg11 x0 x1 x2 x3) := rfl
  have e13 : kernelRun0_A.sl.HS2_13 c i arg1 harg1 arg2 harg2 arg3 harg3 arg4 harg4 arg11 x0 x1 x2 x3 = step 11 (kernelRun0_A.sl.HS2_12 c i arg1 harg1 arg2 harg2 arg3 harg3 arg4 harg4 arg11 x0 x1 x2 x3) := rfl
  have e12 : kernelRun0_A.sl.HS2_12 c i arg1 harg1 arg2 harg2 arg3 harg3 arg4 harg4 arg11 x0 x1 x2 x3 = step 10 (kernelRun0_A.sl.HS2_11 c i arg1 harg1 arg2 harg2 arg3 harg3 arg4 harg4 arg11 x0 x1 x2 x3) := rfl
  have e11 : kernelRun0_A.sl.HS2_11 c i arg1 harg1 arg2 harg2 arg3 harg3 arg4 harg4 arg11 x0 x1 x2 x3 = step 9 (kernelRun0_A.sl.HS2_10 c i arg1 harg1 arg2 harg2 arg3 harg3 arg4 harg4 arg11 x0 x1 x2 x3) := rfl
  have e10 : kernelRun0_A.sl.HS2_10 c i arg1 harg1 arg2 harg2 arg3 harg3 arg4 harg4 arg11 x0 x1 x2 x3 = step 8 (kernelRun0_A.sl.HS2_9 c i arg1 harg1 arg2 harg2 arg3 harg3 arg4 harg4 arg11 x0 x1 x2 x3) := rfl
  have e9 : kernelRun0_A.sl.HS2_9 c i arg1 harg1 arg2 harg2 arg3 harg3 arg4 harg4 arg11 x0 x1 x2 x3 = step 7 (kernelRun0_A.sl.HS2_8 c i arg1 harg1 arg2 harg2 arg3 harg3 arg4 harg4 arg11 x0 x1 x2 x3) := rfl
  have e8 : kernelRun0_A.sl.HS2_8 c i arg1 harg1 arg2 harg2 arg3 harg3 arg4 harg4 arg11 x0 x1 x2 x3 = step 6 (kernelRun0_A.sl.HS2_7 c i arg1 harg1 arg2 harg2 arg3 harg3 arg4 harg4 arg11 x0 x1 x2 x3) := rfl
  have e7 : kernelRun0_A.sl.HS2_7 c i arg1 harg1 arg2 harg2 arg3 harg3 arg4 harg4 arg11 x0 x1 x2 x3 = step 5 (kernelRun0_A.sl.HS2_6 c i arg1 harg1 arg2 harg2 arg3 harg3 arg4 harg4 arg11 x0 x1 x2 x3) := rfl
  have e6 : kernelRun0_A.sl.HS2_6 c i arg1 harg1 arg2 harg2 arg3 harg3 arg4 harg4 arg11 x0 x1 x2 x3 = step 4 (kernelRun0_A.sl.HS2_5 c i arg1 harg1 arg2 harg2 arg3 harg3 arg4 harg4 arg11 x0 x1 x2 x3) := rfl
  have e5 : kernelRun0_A.sl.HS2_5 c i arg1 harg1 arg2 harg2 arg3 harg3 arg4 harg4 arg11 x0 x1 x2 x3 = step 3 (kernelRun0_A.sl.HS2_4 c i arg1 harg1 arg2 harg2 arg3 harg3 arg4 harg4 arg11 x0 x1 x2 x3) := rfl
  have e4 : kernelRun0_A.sl.HS2_4 c i arg1 harg1 arg2 harg2 arg3 harg3 arg4 harg4 arg11 x0 x1 x2 x3 = step 2 (kernelRun0_A.sl.HS2_3 c i arg1 harg1 arg2 harg2 arg3 harg3 arg4 harg4 arg11 x0 x1 x2 x3) := rfl
  have e3 : kernelRun0_A.sl.HS2_3 c i arg1 harg1 arg2 harg2 arg3 harg3 arg4 harg4 arg11 x0 x1 x2 x3 = step 1 (kernelRun0_A.sl.HS2_2 c i arg1 harg1 arg2 harg2 arg3 harg3 arg4 harg4 arg11 x0 x1 x2 x3) := rfl
  have e2 : kernelRun0_A.sl.HS2_2 c i arg1 harg1 arg2 harg2 arg3 harg3 arg4 harg4 arg11 x0 x1 x2 x3 = step 0 (kernelRun0_A.sl.HS2_1) := rfl
  rw [e33, e32, e31, e30, e29, e28, e27, e26, e25, e24, e23, e22, e21, e20, e19, e18, e17, e16, e15, e14, e13, e12, e11, e10, e9, e8, e7, e6, e5, e4, e3, e2]
  rfl

theorem accA : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1
    = accL arg2 harg2 arg3 harg3 x1 x2 (atG arg1 harg1 arg4 harg4 x0 x3 i 0) (atG arg1 harg1 arg4 harg4 x0 x3 i 1) (LDA arg11) kernelRun0_A.sl.HS2_1 32 := by
  rw [accA', at0A, at1A]

theorem wtA : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 = kernelRun0_A.sl.HS0_1 c arg6 harg6 x5 := rfl

theorem giA : (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 = kernelRun0_A.sl.HS1_1 c arg6 harg6 x5 := rfl

end Cert.KernelIdeal.Pieces

end
-- ==== Proof.PiecesB.lean ====
/- Case B of the run: the pieces it writes are the families of Pieces. -/
module

public import proofs.«01_k».proof.Proof.Pieces

@[expose] public section

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S1x32x512 .f32) (harg1 : arg1.IsWhole) (arg2 : Memref sig .tc .vmem S1x512x4096 .fp8e4m3) (harg2 : arg2.IsWhole) (arg3 : Memref sig .tc .vmem S1x512x4096 .fp8e5m2) (harg3 : arg3.IsWhole)
  (arg4 : Memref sig .tc .vmem S4x8192 .f32) (harg4 : arg4.IsWhole) (arg5 : Memref sig .tc .vmem S4x8192 .f32) (harg5 : arg5.IsWhole) (arg6 : Memref sig .tc .vmem S1x4096 .f32) (harg6 : arg6.IsWhole) (arg7 : Memref sig .tc .vmem S1x512x4096 .bf16) (harg7 : arg7.IsWhole)
  (arg8 : Memref sig .tc .vmem S1x4096 .f32) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S8x4096 .f32) (harg11 : arg11.IsWhole)
  (hc0 : ¬cond0_0 i) (hc1 : ¬cond0_1 i)
  (x0 : Vec F S1x32x512 .f32) (x1 : Vec F S1x512x4096 .fp8e4m3) (x2 : Vec F S1x512x4096 .fp8e5m2) (x3 x4 : Vec F S4x8192 .f32) (x5 : Vec F S1x4096 .f32)
  (xs0 : Vec F S128x4096 .bf16) (xs1 : Vec F S1x4096 .f32) (xs2 : Vec F S8x4096 .f32)

/-- the loads of `wt`, `ginv`; the accumulator's load -/
abbrev WB : Fin 16 → Vec F S128x256 .bf16 := fun t => View.readAt (Elt F) arg9.view (rWt t).toLoadRect (harg9.unread xs0)
abbrev GIB : Fin 32 → Vec F S1x128 .f32 := fun b => View.readAt (Elt F) arg10.view (rRow b).toLoadRect (harg10.unread xs1)
abbrev LDB : Nat → Fin 16 → List (View.Piece (Elt F) S8x4096 .f32) → Vec F S8x256 .f32 :=
  fun n t L => if n < 16 then View.readAt (Elt F) arg11.view (rAcc t).toLoadRect (harg11.unread xs2) else arg11.view.readCov L (rAcc t).toLoadRect

theorem coef0B : kernelRun0_B.sl.r_27 c i arg1 harg1 arg2 harg2 arg3 harg3 arg4 harg4 arg5 harg5 arg9 harg9 x0 x1 x2 x3 x4 xs0 = coefG arg1 harg1 arg2 harg2 arg3 harg3 arg4 harg4 arg5 harg5 x0 x1 x2 x3 x4 i (WB arg9 harg9 xs0) 0 := rfl

theorem coef1B : kernelRun0_B.sl.r_94 c i arg1 harg1 arg2 harg2 arg3 harg3 arg4 harg4 arg5 harg5 arg9 harg9 x0 x1 x2 x3 x4 xs0 = coefG arg1 harg1 arg2 harg2 arg3 harg3 arg4 harg4 arg5 harg5 x0 x1 x2 x3 x4 i (WB arg9 harg9 xs0) 1 := rfl

theorem a0B : kernelRun0_B.sl.r_28 c i arg1 harg1 arg4 harg4 arg5 harg5 x0 x3 x4 = aG arg1 harg1 arg4 harg4 arg5 harg5 x0 x3 x4 i 0 := rfl

theorem a1B : kernelRun0_B.sl.r_95 c i arg1 harg1 arg4 harg4 arg5 harg5 x0 x3 x4 = aG arg1 harg1 arg4 harg4 arg5 harg5 x0 x3 x4 i 1 := rfl

theorem at0B : kernelRun0_B.sl.r_3 c i arg1 harg1 arg4 harg4 x0 x3 = atG arg1 harg1 arg4 harg4 x0 x3 i 0 := rfl

theorem at1B : kernelRun0_B.sl.r_70 c i arg1 harg1 arg4 harg4 x0 x3 = atG arg1 harg1 arg4 harg4 x0 x3 i 1 := rfl

/-- the pieces of `dx` -/
theorem dxB' : (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1
    = dxL arg2 harg2 arg3 harg3 arg6 harg6 x1 x2 x5 (kernelRun0_B.sl.r_27 c i arg1 harg1 arg2 harg2 arg3 harg3 arg4 harg4 arg5 harg5 arg9 harg9 x0 x1 x2 x3 x4 xs0) (kernelRun0_B.sl.r_28 c i arg1 harg1 arg4 harg4 arg5 harg5 x0 x3 x4) (kernelRun0_B.sl.r_94 c i arg1 harg1 arg2 harg2 arg3 harg3 arg4 harg4 arg5 harg5 arg9 harg9 x0 x1 x2 x3 x4 xs0) (kernelRun0_B.sl.r_95 c i arg1 harg1 arg4 harg4 arg5 harg5 x0 x3 x4) (GIB arg10 harg10 xs1) := by
  unfold kernelRun0_B
  rfl

theorem dxB : (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1
    = dxL arg2 harg2 arg3 harg3 arg6 harg6 x1 x2 x5
      (coefG arg1 harg1 arg2 harg2 arg3 harg3 arg4 harg4 arg5 harg5 x0 x1 x2 x3 x4 i (WB arg9 harg9 xs0) 0)
      (aG arg1 harg1 arg4 harg4 arg5 harg5 x0 x3 x4 i 0)
      (coefG arg1 harg1 arg2 harg2 arg3 harg3 arg4 harg4 arg5 harg5 x0 x1 x2 x3 x4 i (WB arg9 harg9 xs0) 1)
      (aG arg1 harg1 arg4 harg4 arg5 harg5 x0 x3 x4 i 1) (GIB arg10 harg10 xs1) := by
  rw [dxB', coef0B, coef1B, a0B, a1B]

/-- the pieces of the accumulator, store by store -/
theorem accB' : (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1
    = accL arg2 harg2 arg3 harg3 x1 x2 (kernelRun0_B.sl.r_3 c i arg1 harg1 arg4 harg4 x0 x3) (kernelRun0_B.sl.r_70 c i arg1 harg1 arg4 harg4 x0 x3) (LDB arg11 harg11 xs2) [] 32 := by
  let step := accStep arg2 harg2 arg3 harg3 x1 x2 (kernelRun0_B.sl.r_3 c i arg1 harg1 arg4 harg4 x0 x3) (kernelRun0_B.sl.r_70 c i arg1 harg1 arg4 harg4 x0 x3) (LDB arg11 harg11 xs2)
  have e33 : (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 = step 31 (kernelRun0_B.sl.HS2_31 c i arg1 harg1 arg2 harg2 arg3 harg3 arg4 harg4 arg11 harg11 x0 x1 x2 x3 xs2) := by unfold kernelRun0_B; rfl
  have e31 : kernelRun0_B.sl.HS2_31 c i arg1 harg1 arg2 harg2 arg3 harg3 arg4 harg4 arg11 harg11 x0 x1 x2 x3 xs2 = step 30 (kernelRun0_B.sl.HS2_30 c i arg1 harg1 arg2 harg2 arg3 harg3 arg4 harg4 arg11 harg11 x0 x1 x2 x3 xs2) := rfl
  have e30 : kernelRun0_B.sl.HS2_30 c i arg1 harg1 arg2 harg2 arg3 harg3 arg4 harg4 arg11 harg11 x0 x1 x2 x3 xs2 = step 29 (kernelRun0_B.sl.HS2_29 c i arg1 harg1 arg2 harg2 arg3 harg3 arg4 harg4 arg11 harg11 x0 x1 x2 x3 xs2) := rfl
  have e29 : kernelRun0_B.sl.HS2_29 c i arg1 harg1 arg2 harg2 arg3 harg3 arg4 harg4 arg11 harg11 x0 x1 x2 x3 xs2 = step 28 (kernelRun0_B.sl.HS2_28 c i arg1 harg1 arg2 harg2 arg3 harg3 arg4 harg4 arg11 harg11 x0 x1 x2 x3 xs2) := rfl
  have e28 : kernelRun0_B.sl.HS2_28 c i arg1 harg1 arg2 harg2 arg3 harg3 arg4 harg4 arg11 harg11 x0 x1 x2 x3 xs2 = step 27 (kernelRun0_B.sl.HS2_27 c i arg1 harg1 arg2 harg2 arg3 harg3 arg4 harg4 arg11 harg11 x0 x1 x2 x3 xs2) := rfl
  have e27 : kernelRun0_B.sl.HS2_27 c i arg1 harg1 arg2 harg2 arg3 harg3 arg4 harg4 arg11 harg11 x0 x1 x2 x3 xs2 = step 26 (kernelRun0_B.sl.HS2_26 c i arg1 harg1 arg2 harg2 arg3 harg3 arg4 harg4 arg11 harg11 x0 x1 x2 x3 xs2) := rfl
  have e26 : kernelRun0_B.sl.HS2_26 c i arg1 harg1 arg2 harg2 arg3 harg3 arg4 harg4 arg11 harg11 x0 x1 x2 x3 xs2 = step 25 (kernelRun0_B.sl.HS2_25 c i arg1 harg1 arg2 harg2 arg3 harg3 arg4 harg4 arg11 harg11 x0 x1 x2 x3 xs2) := rfl
  have e25 : kernelRun0_B.sl.HS2_25 c i arg1 harg1 arg2 harg2 arg3 harg3 arg4 harg4 arg11 harg11 x0 x1 x2 x3 xs2 = step 24 (kernelRun0_B.sl.HS2_24 c i arg1 harg1 arg2 harg2 arg3 harg3 arg4 harg4 arg11 harg11 x0 x1 x2 x3 xs2) := rfl
  have e24 : kernelRun0_B.sl.HS2_24 c i arg1 harg1 arg2 harg2 arg3 harg3 arg4 harg4 arg11 harg11 x0 x1 x2 x3 xs2 = step 23 (kernelRun0_B.sl.HS2_23 c i arg1 harg1 arg2 harg2 arg3 harg3 arg4 harg4 arg11 harg11 x0 x1 x2 x3 xs2) := rfl
  have e23 : kernelRun0_B.sl.HS2_23 c i arg1 harg1 arg2 harg2 arg3 harg3 arg4 harg4 arg11 harg11 x0 x1 x2 x3 xs2 = step 22 (kernelRun0_B.sl.HS2_22 c i arg1 harg1 arg2 harg2 arg3 harg3 arg4 harg4 arg11 harg11 x0 x1 x2 x3 xs2) := rfl
  have e22 : kernelRun0_B.sl.HS2_22 c i arg1 harg1 arg2 harg2 arg3 harg3 arg4 harg4 arg11 harg11 x0 x1 x2 x3 xs2 = step 21 (kernelRun0_B.sl.HS2_21 c i arg1 harg1 arg2 harg2 arg3 harg3 arg4 harg4 arg11 harg11 x0 x1 x2 x3 xs2) := rfl
  have e21 : kernelRun0_B.sl.HS2_21 c i arg1 harg1 arg2 harg2 arg3 harg3 arg4 harg4 arg11 harg11 x0 x1 x2 x3 xs2 = step 20 (kernelRun0_B.sl.HS2_20 c i arg1 harg1 arg2 harg2 arg3 harg3 arg4 harg4 arg11 harg11 x0 x1 x2 x3 xs2) := rfl
  have e20 : kernelRun0_B.sl.HS2_20 c i arg1 harg1 arg2 harg2 arg3 harg3 arg4 harg4 arg11 harg11 x0 x1 x2 x3 xs2 = step 19 (kernelRun0_B.sl.HS2_19 c i arg1 harg1 arg2 harg2 arg3 harg3 arg4 harg4 arg11 harg11 x0 x1 x2 x3 xs2) := rfl
  have e19 : kernelRun0_B.sl.HS2_19 c i arg1 harg1 arg2 harg2 arg3 harg3 arg4 harg4 arg11 harg11 x0 x1 x2 x3 xs2 = step 18 (kernelRun0_B.sl.HS2_18 c i arg1 harg1 arg2 harg2 arg3 harg3 arg4 harg4 arg11 harg11 x0 x1 x2 x3 xs2) := rfl
  have e18 : kernelRun0_B.sl.HS2_18 c i arg1 harg1 arg2 harg2 arg3 harg3 arg4 harg4 arg11 harg11 x0 x1 x2 x3 xs2 = step 17 (kernelRun0_B.sl.HS2_17 c i arg1 harg1 arg2 harg2 arg3 harg3 arg4 harg4 arg11 harg11 x0 x1 x2 x3 xs2) := rfl
  have e17 : kernelRun0_B.sl.HS2_17 c i arg1 harg1 arg2 harg2 arg3 harg3 arg4 harg4 arg11 harg11 x0 x1 x2 x3 xs2 = step 16 (kernelRun0_B.sl.HS2_16 c i arg1 harg1 arg2 harg2 arg3 harg3 arg4 harg4 arg11 harg11 x0 x1 x2 x3 xs2) := rfl
  have e16 : kernelRun0_B.sl.HS2_16 c i arg1 harg1 arg2 harg2 arg3 harg3 arg4 harg4 arg11 harg11 x0 x1 x2 x3 xs2 = step 15 (step 14 (step 13 (step 12 (step 11 (step 10 (step 9 (step 8 (step 7 (step 6 (step 5 (step 4 (step 3 (step 2 (step 1 (step 0 ([])))))))))))))))) := rfl
  rw [e33, e31, e30, e29, e28, e27, e26, e25, e24, e23, e22, e21, e20, e19, e18, e17, e16]
  rfl

theorem accB : (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1
    = accL arg2 harg2 arg3 harg3 x1 x2 (atG arg1 harg1 arg4 harg4 x0 x3 i 0) (atG arg1 harg1 arg4 harg4 x0 x3 i 1) (LDB arg11 harg11 xs2) [] 32 := by
  rw [accB', at0B, at1B]

end Cert.KernelIdeal.Pieces

end
-- ==== Proof.PiecesC.lean ====
/- Case C of the run: the pieces it writes are the families of Pieces. -/
module

public import proofs.«01_k».proof.Proof.Pieces

@[expose] public section

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]
variable (c : Dev nD) (i : grid0.Coords) (arg1 : Memref sig .tc .vmem S1x32x512 .f32) (harg1 : arg1.IsWhole) (arg2 : Memref sig .tc .vmem S1x512x4096 .fp8e4m3) (harg2 : arg2.IsWhole) (arg3 : Memref sig .tc .vmem S1x512x4096 .fp8e5m2) (harg3 : arg3.IsWhole)
  (arg4 : Memref sig .tc .vmem S4x8192 .f32) (harg4 : arg4.IsWhole) (arg5 : Memref sig .tc .vmem S4x8192 .f32) (harg5 : arg5.IsWhole) (arg6 : Memref sig .tc .vmem S1x4096 .f32) (harg6 : arg6.IsWhole) (arg7 : Memref sig .tc .vmem S1x512x4096 .bf16) (harg7 : arg7.IsWhole)
  (arg8 : Memref sig .tc .vmem S1x4096 .f32) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S8x4096 .f32) (harg11 : arg11.IsWhole)
  (hc0 : ¬cond0_0 i) (hc1 : cond0_1 i)
  (x0 : Vec F S1x32x512 .f32) (x1 : Vec F S1x512x4096 .fp8e4m3) (x2 : Vec F S1x512x4096 .fp8e5m2) (x3 x4 : Vec F S4x8192 .f32) (x5 : Vec F S1x4096 .f32)
  (xs0 : Vec F S128x4096 .bf16) (xs1 : Vec F S1x4096 .f32) (xs2 : Vec F S8x4096 .f32)

/-- the loads of `wt`, `ginv`; the accumulator's load -/
abbrev WC : Fin 16 → Vec F S128x256 .bf16 := fun t => View.readAt (Elt F) arg9.view (rWt t).toLoadRect (harg9.unread xs0)
abbrev GIC : Fin 32 → Vec F S1x128 .f32 := fun b => View.readAt (Elt F) arg10.view (rRow b).toLoadRect (harg10.unread xs1)
abbrev LDC : Nat → Fin 16 → List (View.Piece (Elt F) S8x4096 .f32) → Vec F S8x256 .f32 :=
  fun n t L => if n < 16 then View.readAt (Elt F) arg11.view (rAcc t).toLoadRect (harg11.unread xs2) else arg11.view.readCov L (rAcc t).toLoadRect

theorem coef0C : kernelRun0_C.sl.r_27 c i arg1 harg1 arg2 harg2 arg3 harg3 arg4 harg4 arg5 harg5 arg9 harg9 x0 x1 x2 x3 x4 xs0 = coefG arg1 harg1 arg2 harg2 arg3 harg3 arg4 harg4 arg5 harg5 x0 x1 x2 x3 x4 i (WC arg9 harg9 xs0) 0 := rfl

theorem coef1C : kernelRun0_C.sl.r_94 c i arg1 harg1 arg2 harg2 arg3 harg3 arg4 harg4 arg5 harg5 arg9 harg9 x0 x1 x2 x3 x4 xs0 = coefG arg1 harg1 arg2 harg2 arg3 harg3 arg4 harg4 arg5 harg5 x0 x1 x2 x3 x4 i (WC arg9 harg9 xs0) 1 := rfl

theorem a0C : kernelRun0_C.sl.r_28 c i arg1 harg1 arg4 harg4 arg5 harg5 x0 x3 x4 = aG arg1 harg1 arg4 harg4 arg5 harg5 x0 x3 x4 i 0 := rfl

theorem a1C : kernelRun0_C.sl.r_95 c i arg1 harg1 arg4 harg4 arg5 harg5 x0 x3 x4 = aG arg1 harg1 arg4 harg4 arg5 harg5 x0 x3 x4 i 1 := rfl

theorem at0C : kernelRun0_C.sl.r_3 c i arg1 harg1 arg4 harg4 x0 x3 = atG arg1 harg1 arg4 harg4 x0 x3 i 0 := rfl

theorem at1C : kernelRun0_C.sl.r_70 c i arg1 harg1 arg4 harg4 x0 x3 = atG arg1 harg1 arg4 harg4 x0 x3 i 1 := rfl

/-- the pieces of `dx` -/
theorem dxC' : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1
    = dxL arg2 harg2 arg3 harg3 arg6 harg6 x1 x2 x5 (kernelRun0_C.sl.r_27 c i arg1 harg1 arg2 harg2 arg3 harg3 arg4 harg4 arg5 harg5 arg9 harg9 x0 x1 x2 x3 x4 xs0) (kernelRun0_C.sl.r_28 c i arg1 harg1 arg4 harg4 arg5 harg5 x0 x3 x4) (kernelRun0_C.sl.r_94 c i arg1 harg1 arg2 harg2 arg3 harg3 arg4 harg4 arg5 harg5 arg9 harg9 x0 x1 x2 x3 x4 xs0) (kernelRun0_C.sl.r_95 c i arg1 harg1 arg4 harg4 arg5 harg5 x0 x3 x4) (GIC arg10 harg10 xs1) := by
  unfold kernelRun0_C
  rfl

theorem dxC : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1
    = dxL arg2 harg2 arg3 harg3 arg6 harg6 x1 x2 x5
      (coefG arg1 harg1 arg2 harg2 arg3 harg3 arg4 harg4 arg5 harg5 x0 x1 x2 x3 x4 i (WC arg9 harg9 xs0) 0)
      (aG arg1 harg1 arg4 harg4 arg5 harg5 x0 x3 x4 i 0)
      (coefG arg1 harg1 arg2 harg2 arg3 harg3 arg4 harg4 arg5 harg5 x0 x1 x2 x3 x4 i (WC arg9 harg9 xs0) 1)
      (aG arg1 harg1 arg4 harg4 arg5 harg5 x0 x3 x4 i 1) (GIC arg10 harg10 xs1) := by
  rw [dxC', coef0C, coef1C, a0C, a1C]

/-- the pieces of the accumulator, store by store -/
theorem accC' : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1
    = accL arg2 harg2 arg3 harg3 x1 x2 (kernelRun0_C.sl.r_3 c i arg1 harg1 arg4 harg4 x0 x3) (kernelRun0_C.sl.r_70 c i arg1 harg1 arg4 harg4 x0 x3) (LDC arg11 harg11 xs2) [] 32 := by
  let step := accStep arg2 harg2 arg3 harg3 x1 x2 (kernelRun0_C.sl.r_3 c i arg1 harg1 arg4 harg4 x0 x3) (kernelRun0_C.sl.r_70 c i arg1 harg1 arg4 harg4 x0 x3) (LDC arg11 harg11 xs2)
  have e33 : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 = kernelRun0_C.sl.HS2_32 c i arg1 harg1 arg2 harg2 arg3 harg3 arg4 harg4 arg11 harg11 x0 x1 x2 x3 xs2 := by unfold kernelRun0_C; rfl
  have e32 : kernelRun0_C.sl.HS2_32 c i arg1 harg1 arg2 harg2 arg3 harg3 arg4 harg4 arg11 harg11 x0 x1 x2 x3 xs2 = step 31 (kernelRun0_C.sl.HS2_31 c i arg1 harg1 arg2 harg2 arg3 harg3 arg4 harg4 arg11 harg11 x0 x1 x2 x3 xs2) := rfl
  have e31 : kernelRun0_C.sl.HS2_31 c i arg1 harg1 arg2 harg2 arg3 harg3 arg4 harg4 arg11 harg11 x0 x1 x2 x3 xs2 = step 30 (kernelRun0_C.sl.HS2_30 c i arg1 harg1 arg2 harg2 arg3 harg3 arg4 harg4 arg11 harg11 x0 x1 x2 x3 xs2) := rfl
  have e30 : kernelRun0_C.sl.HS2_30 c i arg1 harg1 arg2 harg2 arg3 harg3 arg4 harg4 arg11 harg11 x0 x1 x2 x3 xs2 = step 29 (kernelRun0_C.sl.HS2_29 c i arg1 harg1 arg2 harg2 arg3 harg3 arg4 harg4 arg11 harg11 x0 x1 x2 x3 xs2) := rfl
  have e29 : kernelRun0_C.sl.HS2_29 c i arg1 harg1 arg2 harg2 arg3 harg3 arg4 harg4 arg11 harg11 x0 x1 x2 x3 xs2 = step 28 (kernelRun0_C.sl.HS2_28 c i arg1 harg1 arg2 harg2 arg3 harg3 arg4 harg4 arg11 harg11 x0 x1 x2 x3 xs2) := rfl
  have e28 : kernelRun0_C.sl.HS2_28 c i arg1 harg1 arg2 harg2 arg3 harg3 arg4 harg4 arg11 harg11 x0 x1 x2 x3 xs2 = step 27 (kernelRun0_C.sl.HS2_27 c i arg1 harg1 arg2 harg2 arg3 harg3 arg4 harg4 arg11 harg11 x0 x1 x2 x3 xs2) := rfl
  have e27 : kernelRun0_C.sl.HS2_27 c i arg1 harg1 arg2 harg2 arg3 harg3 arg4 harg4 arg11 harg11 x0 x1 x2 x3 xs2 = step 26 (kernelRun0_C.sl.HS2_26 c i arg1 harg1 arg2 harg2 arg3 harg3 arg4 harg4 arg11 harg11 x0 x1 x2 x3 xs2) := rfl
  have e26 : kernelRun0_C.sl.HS2_26 c i arg1 harg1 arg2 harg2 arg3 harg3 arg4 harg4 arg11 harg11 x0 x1 x2 x3 xs2 = step 25 (kernelRun0_C.sl.HS2_25 c i arg1 harg1 arg2 harg2 arg3 harg3 arg4 harg4 arg11 harg11 x0 x1 x2 x3 xs2) := rfl
  have e25 : kernelRun0_C.sl.HS2_25 c i arg1 harg1 arg2 harg2 arg3 harg3 arg4 harg4 arg11 harg11 x0 x1 x2 x3 xs2 = step 24 (kernelRun0_C.sl.HS2_24 c i arg1 harg1 arg2 harg2 arg3 harg3 arg4 harg4 arg11 harg11 x0 x1 x2 x3 xs2) := rfl
  have e24 : kernelRun0_C.sl.HS2_24 c i arg1 harg1 arg2 harg2 arg3 harg3 arg4 harg4 arg11 harg11 x0 x1 x2 x3 xs2 = step 23 (kernelRun0_C.sl.HS2_23 c i arg1 harg1 arg2 harg2 arg3 harg3 arg4 harg4 arg11 harg11 x0 x1 x2 x3 xs2) := rfl
  have e23 : kernelRun0_C.sl.HS2_23 c i arg1 harg1 arg2 harg2 arg3 harg3 arg4 harg4 arg11 harg11 x0 x1 x2 x3 xs2 = step 22 (kernelRun0_C.sl.HS2_22 c i arg1 harg1 arg2 harg2 arg3 harg3 arg4 harg4 arg11 harg11 x0 x1 x2 x3 xs2) := rfl
  have e22 : kernelRun0_C.sl.HS2_22 c i arg1 harg1 arg2 harg2 arg3 harg3 arg4 harg4 arg11 harg11 x0 x1 x2 x3 xs2 = step 21 (kernelRun0_C.sl.HS2_21 c i arg1 harg1 arg2 harg2 arg3 harg3 arg4 harg4 arg11 harg11 x0 x1 x2 x3 xs2) := rfl
  have e21 : kernelRun0_C.sl.HS2_21 c i arg1 harg1 arg2 harg2 arg3 harg3 arg4 harg4 arg11 harg11 x0 x1 x2 x3 xs2 = step 20 (kernelRun0_C.sl.HS2_20 c i arg1 harg1 arg2 harg2 arg3 harg3 arg4 harg4 arg11 harg11 x0 x1 x2 x3 xs2) := rfl
  have e20 : kernelRun0_C.sl.HS2_20 c i arg1 harg1 arg2 harg2 arg3 harg3 arg4 harg4 arg11 harg11 x0 x1 x2 x3 xs2 = step 19 (kernelRun0_C.sl.HS2_19 c i arg1 harg1 arg2 harg2 arg3 harg3 arg4 harg4 arg11 harg11 x0 x1 x2 x3 xs2) := rfl
  have e19 : kernelRun0_C.sl.HS2_19 c i arg1 harg1 arg2 harg2 arg3 harg3 arg4 harg4 arg11 harg11 x0 x1 x2 x3 xs2 = step 18 (kernelRun0_C.sl.HS2_18 c i arg1 harg1 arg2 harg2 arg3 harg3 arg4 harg4 arg11 harg11 x0 x1 x2 x3 xs2) := rfl
  have e18 : kernelRun0_C.sl.HS2_18 c i arg1 harg1 arg2 harg2 arg3 harg3 arg4 harg4 arg11 harg11 x0 x1 x2 x3 xs2 = step 17 (kernelRun0_C.sl.HS2_17 c i arg1 harg1 arg2 harg2 arg3 harg3 arg4 harg4 arg11 harg11 x0 x1 x2 x3 xs2) := rfl
  have e17 : kernelRun0_C.sl.HS2_17 c i arg1 harg1 arg2 harg2 arg3 harg3 arg4 harg4 arg11 harg11 x0 x1 x2 x3 xs2 = step 16 (kernelRun0_C.sl.HS2_16 c i arg1 harg1 arg2 harg2 arg3 harg3 arg4 harg4 arg11 harg11 x0 x1 x2 x3 xs2) := rfl
  have e16 : kernelRun0_C.sl.HS2_16 c i arg1 harg1 arg2 harg2 arg3 harg3 arg4 harg4 arg11 harg11 x0 x1 x2 x3 xs2 = step 15 (step 14 (step 13 (step 12 (step 11 (step 10 (step 9 (step 8 (step 7 (step 6 (step 5 (step 4 (step 3 (step 2 (step 1 (step 0 ([])))))))))))))))) := rfl
  rw [e33, e32, e31, e30, e29, e28, e27, e26, e25, e24, e23, e22, e21, e20, e19, e18, e17, e16]
  rfl

theorem accC : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1
    = accL arg2 harg2 arg3 harg3 x1 x2 (atG arg1 harg1 arg4 harg4 x0 x3 i 0) (atG arg1 harg1 arg4 harg4 x0 x3 i 1) (LDC arg11 harg11 xs2) [] 32 := by
  rw [accC', at0C, at1C]

/-- the pieces of `dgamma` -/
theorem dgC : (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.1
    = dgL (fun b => arg11.view.readCov (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 (rAccRow b).toLoadRect) (GIC arg10 harg10 xs1) := by
  unfold kernelRun0_C
  rfl

end Cert.KernelIdeal.Pieces

end
-- ==== Proof.Step.lean ====
/- The three cases of a grid point, evaluated on the extended reals: the block of `dx` it writes, the scratch it leaves, and
   at the last point `dgamma`. -/
module

public import proofs.«01_k».proof.Proof.Point
public import proofs.«01_k».proof.Proof.PiecesA
public import proofs.«01_k».proof.Proof.PiecesB
public import proofs.«01_k».proof.Proof.PiecesC

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Alg

/-- what the carried `wt` and `ginv` hold once the first point has run -/
def WtInv (x5 : Vec Ideal S1x4096 .f32) (xs0 : Vec Ideal S128x4096 .bf16) : Prop :=
  ∀ (l : Fin 128) (k : Fin 4096), xs0 (ix2 l k) = if k.val / 128 = l.val then wq (Gr x5 k) else 0
def GiInv (x5 xs1 : Vec Ideal S1x4096 .f32) : Prop := ∀ k : Fin 4096, xs1 (ix2 0 k) = gi (Gr x5 k)

variable (c : Dev nD) (i : grid0.Coords) (arg1 : Memref sig .tc .vmem S1x32x512 .f32) (harg1 : arg1.IsWhole) (arg2 : Memref sig .tc .vmem S1x512x4096 .fp8e4m3) (harg2 : arg2.IsWhole) (arg3 : Memref sig .tc .vmem S1x512x4096 .fp8e5m2) (harg3 : arg3.IsWhole)
  (arg4 : Memref sig .tc .vmem S4x8192 .f32) (harg4 : arg4.IsWhole) (arg5 : Memref sig .tc .vmem S4x8192 .f32) (harg5 : arg5.IsWhole) (arg6 : Memref sig .tc .vmem S1x4096 .f32) (harg6 : arg6.IsWhole) (arg7 : Memref sig .tc .vmem S1x512x4096 .bf16) (harg7 : arg7.IsWhole)
  (arg8 : Memref sig .tc .vmem S1x4096 .f32) (harg8 : arg8.IsWhole) (arg9 : Memref sig .tc .vmem S128x4096 .bf16) (harg9 : arg9.IsWhole) (arg10 : Memref sig .tc .vmem S1x4096 .f32) (harg10 : arg10.IsWhole) (arg11 : Memref sig .tc .vmem S8x4096 .f32) (harg11 : arg11.IsWhole)
  (x0 : Vec Ideal S1x32x512 .f32) (x1 : Vec Ideal S1x512x4096 .fp8e4m3) (x2 : Vec Ideal S1x512x4096 .fp8e5m2) (x3 x4 : Vec Ideal S4x8192 .f32) (x5 : Vec Ideal S1x4096 .f32)
  (xs0 : Vec Ideal S128x4096 .bf16) (xs1 : Vec Ideal S1x4096 .f32) (xs2 : Vec Ideal S8x4096 .f32)

theorem ld_whole (k : Fin 4096) : View.ld x5 (Rect.unit (s := S1x4096) ![0, 0] S1x4096.size inb_S1x4096_S1x4096_0_0) (ix2 0 k) = x5 (ix2 0 k) := by
  pointwise []

/-! ## The first point -/

theorem canon_wt : WtInv x5 (View.canon (kernelRun0_A.sl.HS0_1 (F := Ideal) c arg6 harg6 x5)) := fun l k => by
  rw [kernelRun0_A.sl.HS0_1, View.canon_unit_zero (by decide), kernelRun0_A.sl.r, readAt_unread]
  exact (wt_at _ l k).trans (by rw [ld_whole])

theorem canon_gi : GiInv x5 (View.canon (kernelRun0_A.sl.HS1_1 (F := Ideal) c arg6 harg6 x5)) := fun k => by
  rw [kernelRun0_A.sl.HS1_1, View.canon_unit_zero (by decide), readAt_unread]
  exact (ginv_at _ k).trans (by rw [ld_whole])

theorem canon_acc0 (r : Fin 8) (k : Fin 4096) : View.canon (kernelRun0_A.sl.HS2_1 (F := Ideal)) (ix2 r k) = (0 : EReal) := by
  rw [kernelRun0_A.sl.HS2_1, View.canon_unit_zero (by decide)]
  exact zero_at r k

theorem wtOk_A : WtOk x5 (WA (F := Ideal) c arg6 harg6 arg9 x5) := fun t l k => by
  show View.readCov _ _ _ _ = _
  rw [View.readCov_eq_canon']
  exact (ldWt_at _ t l k).trans (canon_wt c arg6 harg6 x5 l (colT t k))

theorem giOk_A (b : Fin 32) (k : Fin 128) : GIA (F := Ideal) c arg6 harg6 arg10 x5 b (ix2 0 k) = gi (Gr x5 (colB b k)) := by
  show View.readCov _ _ _ _ = _
  rw [View.readCov_eq_canon']
  exact (ldRow_at _ b k).trans (canon_gi c arg6 harg6 x5 (colB b k))

theorem wtOk_of (h : WtInv x5 xs0) : WtOk x5 (fun t => View.readAt (Elt Ideal) arg9.view (rWt t).toLoadRect (harg9.unread xs0)) := fun t l k => by
  show View.readAt _ _ _ _ _ = _
  rw [readAt_unread]
  exact (ldWt_at _ t l k).trans (h l (colT t k))

theorem giOk_of (h : GiInv x5 xs1) (b : Fin 32) (k : Fin 128) :
    View.readAt (Elt Ideal) arg10.view (rRow b).toLoadRect (harg10.unread xs1) (ix2 0 k) = gi (Gr x5 (colB b k)) := by
  rw [readAt_unread]
  exact (ldRow_at _ b k).trans (h (colB b k))

theorem accFull (hys : ∀ b s, NF (YSr x0 s b)) (hds : ∀ s, NF (TKr x3 i s)) (ok : Prop) (base : Fin 8 → Fin 4096 → EReal) (L0 : List (View.Piece (Elt Ideal) S8x4096 .f32)) (h0 : ok → ∀ r c, View.canon L0 (ix2 r c) = base r c)
    (ld : Nat → Fin 16 → List (View.Piece (Elt Ideal) S8x4096 .f32) → Vec Ideal S8x256 .f32)
    (hb : ∀ n t L r k, n < 16 → ¬ ok → ld n t L (ix2 r k) = base r (colT t k))
    (hl : ∀ n t L r k, (ok ∨ 16 ≤ n) → ld n t L (ix2 r k) = View.canon L (ix2 r (colT t k))) (r : Fin 8) (k : Fin 4096) :
    View.canon (accL arg2 harg2 arg3 harg3 x1 x2 (atG arg1 harg1 arg4 harg4 x0 x3 i 0) (atG arg1 harg1 arg4 harg4 x0 x3 i 1) ld L0 32) (ix2 r k)
      = base r k + accP x0 x1 x2 x3 i r k := by
  rw [accL_at arg1 harg1 arg2 harg2 arg3 harg3 arg4 harg4 x0 x1 x2 x3 i hys hds base ok L0 h0 ld hb hl 32 (Nat.le_refl 32) r k (.inr (by have := k.isLt; omega)), accV_32]

theorem readCov_acc (L : List (View.Piece (Elt Ideal) S8x4096 .f32)) (t : Fin 16) (r : Fin 8) (k : Fin 256) :
    arg11.view.readCov L (rAcc t).toLoadRect (ix2 r k) = View.canon L (ix2 r (colT t k)) := by
  rw [View.readCov_eq_canon']
  exact ldAcc_at _ t r k

/-- case A: the block of `dx` -/
theorem outA6 (hys : ∀ b s, NF (YSr x0 s b)) (hc0 : cond0_0 i) (hc1 : ¬cond0_1 i) (s : Fin 512) (k : Fin 4096) :
    out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix3 0 s k) = dxRow (Yr x1 s) (DYr x2 s) (YSr x0 s) (TKr x3 i s) (TKr x4 i s) (Gr x5) k := by
  rw [out0_A_6, View.read_writes_junk_eq_canon, dxA]
  exact dxL_at arg1 harg1 arg2 harg2 arg3 harg3 arg4 harg4 arg5 harg5 arg6 harg6 x0 x1 x2 x3 x4 x5 i _ (wtOk_A c arg6 harg6 arg9 x5) hys _ (giOk_A c arg6 harg6 arg10 x5) s k

theorem accAv (hys : ∀ b s, NF (YSr x0 s b)) (hds : ∀ s, NF (TKr x3 i s)) (hc0 : cond0_0 i) (hc1 : ¬cond0_1 i) (r : Fin 8) (k : Fin 4096) :
    View.canon (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 (ix2 r k) = 0 + accP x0 x1 x2 x3 i r k := by
  rw [accA]
  exact accFull i arg1 harg1 arg2 harg2 arg3 harg3 arg4 harg4 x0 x1 x2 x3 hys hds True (fun _ _ => 0) _ (fun _ r k => canon_acc0 r k) (LDA (F := Ideal) arg11) (fun _ _ _ _ _ _ h => absurd trivial h) (fun n t L r k _ => readCov_acc arg11 L t r k) r k

/-- case A: the accumulator -/
theorem soutA2 (hys : ∀ b s, NF (YSr x0 s b)) (hds : ∀ s, NF (TKr x3 i s)) (hc0 : cond0_0 i) (hc1 : ¬cond0_1 i) (r : Fin 8) (k : Fin 4096) :
    sout0_A_2 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 r k) = 0 + accP x0 x1 x2 x3 i r k := by
  rw [sout0_A_2, View.read_writes_junk_eq_canon]
  exact accAv c i arg1 harg1 arg2 harg2 arg3 harg3 arg4 harg4 arg5 harg5 arg6 harg6 arg7 harg7 arg8 harg8 arg9 harg9 arg10 harg10 arg11 harg11 x0 x1 x2 x3 x4 x5 hys hds hc0 hc1 r k

/-- case A: the weights and the reciprocals -/
theorem soutA0 (hc0 : cond0_0 i) (hc1 : ¬cond0_1 i) : WtInv x5 (sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5) := by
  rw [sout0_A_0, View.read_writes_junk_eq_canon, wtA]
  exact canon_wt c arg6 harg6 x5

theorem soutA1 (hc0 : cond0_0 i) (hc1 : ¬cond0_1 i) : GiInv x5 (sout0_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5) := by
  rw [sout0_A_1, View.read_writes_junk_eq_canon, giA]
  exact canon_gi c arg6 harg6 x5

/-- case B: the block of `dx` -/
theorem outB6 (hys : ∀ b s, NF (YSr x0 s b)) (hc0 : ¬cond0_0 i) (hc1 : ¬cond0_1 i) (hw : WtInv x5 xs0) (hg : GiInv x5 xs1) (s : Fin 512) (k : Fin 4096) :
    out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 (ix3 0 s k) = dxRow (Yr x1 s) (DYr x2 s) (YSr x0 s) (TKr x3 i s) (TKr x4 i s) (Gr x5) k := by
  rw [out0_B_6, View.read_writes_junk_eq_canon, dxB]
  exact dxL_at arg1 harg1 arg2 harg2 arg3 harg3 arg4 harg4 arg5 harg5 arg6 harg6 x0 x1 x2 x3 x4 x5 i _ (wtOk_of arg9 harg9 x5 xs0 hw) hys _ (giOk_of arg10 harg10 x5 xs1 hg) s k

theorem accBv (hys : ∀ b s, NF (YSr x0 s b)) (hds : ∀ s, NF (TKr x3 i s)) (hc0 : ¬cond0_0 i) (hc1 : ¬cond0_1 i) (r : Fin 8) (k : Fin 4096) :
    View.canon (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 (ix2 r k) = (show EReal from xs2 (ix2 r k)) + accP x0 x1 x2 x3 i r k := by
  rw [accB]
  exact accFull i arg1 harg1 arg2 harg2 arg3 harg3 arg4 harg4 x0 x1 x2 x3 hys hds False (fun r k => xs2 (ix2 r k)) [] (fun h => h.elim) (LDB (F := Ideal) arg11 harg11 xs2)
    (fun n t L r k hn _ => by
      show LDB (F := Ideal) arg11 harg11 xs2 n t L (ix2 r k) = _
      unfold LDB
      rw [if_pos hn, readAt_unread]; exact ldAcc_at _ t r k)
    (fun n t L r k h => by
      show LDB (F := Ideal) arg11 harg11 xs2 n t L (ix2 r k) = _
      unfold LDB
      rw [if_neg (Nat.not_lt.2 (h.resolve_left id))]; exact readCov_acc arg11 L t r k) r k

/-- case B: the accumulator -/
theorem soutB2 (hys : ∀ b s, NF (YSr x0 s b)) (hds : ∀ s, NF (TKr x3 i s)) (hc0 : ¬cond0_0 i) (hc1 : ¬cond0_1 i) (r : Fin 8) (k : Fin 4096) :
    sout0_B_2 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 (ix2 r k) = (show EReal from xs2 (ix2 r k)) + accP x0 x1 x2 x3 i r k := by
  rw [sout0_B_2, View.read_writes_junk_eq_canon]
  exact accBv c i arg1 harg1 arg2 harg2 arg3 harg3 arg4 harg4 arg5 harg5 arg6 harg6 arg7 harg7 arg8 harg8 arg9 harg9 arg10 harg10 arg11 harg11 x0 x1 x2 x3 x4 x5 xs0 xs1 xs2 hys hds hc0 hc1 r k

/-- case C: the block of `dx` -/
theorem outC6 (hys : ∀ b s, NF (YSr x0 s b)) (hc0 : ¬cond0_0 i) (hc1 : cond0_1 i) (hw : WtInv x5 xs0) (hg : GiInv x5 xs1) (s : Fin 512) (k : Fin 4096) :
    out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 (ix3 0 s k) = dxRow (Yr x1 s) (DYr x2 s) (YSr x0 s) (TKr x3 i s) (TKr x4 i s) (Gr x5) k := by
  rw [out0_C_6, View.read_writes_junk_eq_canon, dxC]
  exact dxL_at arg1 harg1 arg2 harg2 arg3 harg3 arg4 harg4 arg5 harg5 arg6 harg6 x0 x1 x2 x3 x4 x5 i _ (wtOk_of arg9 harg9 x5 xs0 hw) hys _ (giOk_of arg10 harg10 x5 xs1 hg) s k

theorem accCv (hys : ∀ b s, NF (YSr x0 s b)) (hds : ∀ s, NF (TKr x3 i s)) (hc0 : ¬cond0_0 i) (hc1 : cond0_1 i) (r : Fin 8) (k : Fin 4096) :
    View.canon (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 (ix2 r k) = (show EReal from xs2 (ix2 r k)) + accP x0 x1 x2 x3 i r k := by
  rw [accC]
  exact accFull i arg1 harg1 arg2 harg2 arg3 harg3 arg4 harg4 x0 x1 x2 x3 hys hds False (fun r k => xs2 (ix2 r k)) [] (fun h => h.elim) (LDC (F := Ideal) arg11 harg11 xs2)
    (fun n t L r k hn _ => by
      show LDC (F := Ideal) arg11 harg11 xs2 n t L (ix2 r k) = _
      unfold LDC
      rw [if_pos hn, readAt_unread]; exact ldAcc_at _ t r k)
    (fun n t L r k h => by
      show LDC (F := Ideal) arg11 harg11 xs2 n t L (ix2 r k) = _
      unfold LDC
      rw [if_neg (Nat.not_lt.2 (h.resolve_left id))]; exact readCov_acc arg11 L t r k) r k

/-- case C: the accumulator -/
theorem soutC2 (hys : ∀ b s, NF (YSr x0 s b)) (hds : ∀ s, NF (TKr x3 i s)) (hc0 : ¬cond0_0 i) (hc1 : cond0_1 i) (r : Fin 8) (k : Fin 4096) :
    sout0_C_2 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 (ix2 r k) = (show EReal from xs2 (ix2 r k)) + accP x0 x1 x2 x3 i r k := by
  rw [sout0_C_2, View.read_writes_junk_eq_canon]
  exact accCv c i arg1 harg1 arg2 harg2 arg3 harg3 arg4 harg4 arg5 harg5 arg6 harg6 arg7 harg7 arg8 harg8 arg9 harg9 arg10 harg10 arg11 harg11 x0 x1 x2 x3 x4 x5 xs0 xs1 xs2 hys hds hc0 hc1 r k

/-- the last point: `dgamma` -/
theorem outC7 (hys : ∀ b s, NF (YSr x0 s b)) (hds : ∀ s, NF (TKr x3 i s)) (hc0 : ¬cond0_0 i) (hc1 : cond0_1 i) (hg : GiInv x5 xs1) (k : Fin 4096) :
    out0_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 (ix2 0 k)
      = ((show EReal from xs2 (ix2 ⟨k.val / 128 % 8, by omega⟩ k)) + accP x0 x1 x2 x3 i ⟨k.val / 128 % 8, by omega⟩ k) * gi (Gr x5 k) := by
  rw [out0_C_7, View.read_writes_junk_eq_canon, dgC, dgL]
  have hpay : ∀ (b : Fin 32) (q : Fin 128),
      (mulf (arg11.view.readCov (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 (rAccRow b).toLoadRect)
        (GIC (F := Ideal) arg10 harg10 xs1 b) : FVec Ideal S1x128 .f32) (ix2 0 q)
      = ((show EReal from xs2 (ix2 ⟨b.val % 8, by omega⟩ (colB b q))) + accP x0 x1 x2 x3 i ⟨b.val % 8, by omega⟩ (colB b q)) * gi (Gr x5 (colB b q)) := fun b q => by
    have h1 : arg11.view.readCov (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 (rAccRow b).toLoadRect (ix2 0 q)
        = (show EReal from xs2 (ix2 ⟨b.val % 8, by omega⟩ (colB b q))) + accP x0 x1 x2 x3 i ⟨b.val % 8, by omega⟩ (colB b q) := by
      rw [View.readCov_eq_canon']
      exact (ldAccRow_at _ b q).trans (accCv c i arg1 harg1 arg2 harg2 arg3 harg3 arg4 harg4 arg5 harg5 arg6 harg6 arg7 harg7 arg8 harg8 arg9 harg9 arg10 harg10 arg11 harg11 x0 x1 x2 x3 x4 x5 xs0 xs1 xs2 hys hds hc0 hc1 _ _)
    have h2 := giOk_of arg10 harg10 x5 xs1 hg b q
    exact congrArg₂ (· * ·) h1 h2
  refine View.canon_ofFn_unit_eq_of_forall _ _ _ _ _ _ ?_ ?_
  · have hk := k.isLt
    refine ⟨⟨31 - k.val / 128, by omega⟩, fun a => ?_⟩
    match a with
    | ⟨0, _⟩ => exact ⟨le_refl 0, Nat.one_pos⟩
    | ⟨1, _⟩ =>
      show 128 * (31 - (31 - k.val / 128)) ≤ k.val ∧ k.val < 128 * (31 - (31 - k.val / 128)) + 128
      omega
  · intro n
    tile_intro x h
    have hlt : (x 1).val < 128 := x1_lt
    have hx : x = (ix2 (0 : Fin 1) (⟨(x 1).val, hlt⟩ : Fin 128) : S1x128.Idx) := by
      funext a; apply Fin.ext
      match a with
      | ⟨0, _⟩ => exact Nat.lt_one_iff.1 x0_lt
      | ⟨1, _⟩ => rfl
    have hk : k = colB ⟨31 - n.val, by omega⟩ ⟨(x 1).val, hlt⟩ := Fin.ext h1
    have key := hpay ⟨31 - n.val, by omega⟩ ⟨(x 1).val, hlt⟩
    rw [← hk] at key
    refine (congrArg _ hx).trans (key.trans ?_)
    have hr : (⟨(31 - n.val) % 8, by omega⟩ : Fin 8) = ⟨k.val / 128 % 8, by omega⟩ := Fin.ext (by
      show (31 - n.val) % 8 = k.val / 128 % 8
      have h1' : k.val = 128 * (31 - n.val) + (x 1).val := h1
      omega)
    rw [hr]

end Cert.KernelIdeal.Pieces

end
-- ==== Proof.Win.lean ====
/- The kernel's input windows: what each block holds at a grid point, as elements of the argument arrays. -/
module

public import proofs.«01_k».proof.Proof.Step
public import proofs.«01_k».proof.Proof.Gen.KernelIdeal.Value

@[expose] public section

set_option maxRecDepth 16384

noncomputable section

namespace Cert.KernelIdeal.Win

open Idealize.ShloMosaic Idealize.ShloMosaic.TcCoe Idealize.SL.Sem
open Cert.KernelIdeal Cert.KernelIdeal.Gen Cert.KernelIdeal.Pieces

variable (m : (ℓ : Loc nD τ sig) → Buf (Elt Ideal) ℓ) (c : Dev nD) (t : Fin cfg0.N)

theorem coord : ∀ t : Fin cfg0.N, (grid0.coords t 0).val = t.val :=
  (by decide +kernel : ∀ t : Fin grid0.N, _)

/-- the windows' index maps, at every point -/
theorem idx : ∀ t : Fin cfg0.N,
    win0_0.index t = ![t.val / 16, 0, t.val % 16] ∧ win0_1.index t = ![t.val / 16, t.val % 16, 0]
    ∧ win0_2.index t = ![t.val / 16, t.val % 16, 0] ∧ win0_3.index t = ![0, 0] ∧ win0_4.index t = ![0, 0] ∧ win0_5.index t = ![0, 0] :=
  (by decide +kernel : ∀ t : Fin grid0.N, _)

/-- the batch and the tokens of a point, by its number -/
def pb : Fin 4 := ⟨t.val / 16, by have h : t.val < 64 := N_0 ▸ t.isLt; omega⟩
def pt (s : Fin 512) : Fin 8192 := ⟨512 * (t.val % 16) + s.val, by omega⟩

theorem batch_eq : batch (grid0.coords t) = pb t := Fin.ext (by show (grid0.coords t 0).val / 16 = _; rw [coord]; rfl)
theorem tokn_eq (s : Fin 512) : tokn (grid0.coords t) s = pt t s := Fin.ext (by show 512 * ((grid0.coords t 0).val % 16) + s.val = _; rw [coord]; rfl)

theorem blk0 (b : Fin 32) (s : Fin 512) : iblk m c 0 t (ix3 0 b s) = m ((c : Thread nD τ).loc main_arg1) (ix3 (pb t) (pt t s) b) := by
  blk_simp [iblk, idx t]
  entry_read
  pointwise
  blk_ext [idx t, pb, pt]

theorem blk1 (s : Fin 512) (k : Fin 4096) : iblk m c 1 t (ix3 0 s k) = m ((c : Thread nD τ).loc main_arg0) (ix3 (pb t) (pt t s) k) := by
  blk_ext [iblk, V, idx t, pb, pt]

theorem blk2 (s : Fin 512) (k : Fin 4096) : iblk m c 2 t (ix3 0 s k) = m ((c : Thread nD τ).loc main_arg2) (ix3 (pb t) (pt t s) k) := by
  blk_ext [iblk, V, idx t, pb, pt]

theorem blk3 (b : Fin 4) (s : Fin 8192) : iblk m c 3 t (ix2 b s) = m ((c : Thread nD τ).loc main_arg3) (ix2 b s) := by
  blk_ext [iblk, V, idx t]

theorem blk4 (b : Fin 4) (s : Fin 8192) : iblk m c 4 t (ix2 b s) = m ((c : Thread nD τ).loc main_arg4) (ix2 b s) := by
  blk_ext [iblk, V, idx t]

theorem blk5 (k : Fin 4096) : iblk m c 5 t (ix2 0 k) = m ((c : Thread nD τ).loc main_arg5) (ix1 k) := by
  blk_simp [iblk, idx t]
  entry_read
  pointwise
  blk_ext [idx t]

end Cert.KernelIdeal.Win

end
-- ==== Proof.Run.lean ====
/- The kernel's run over its grid: after every point, the block of `dx` it wrote, the two carried coefficient rows, and the
   accumulator holding the sum of the tokens seen so far; after the last, `dgamma`. -/
module

public import proofs.«01_k».proof.Proof.Win

@[expose] public section

set_option maxRecDepth 16384

noncomputable section

namespace Cert.KernelIdeal.Win

open Idealize.ShloMosaic Idealize.ShloMosaic.TcCoe Idealize.SL.Sem
open Cert.KernelIdeal Cert.KernelIdeal.Gen Cert.KernelIdeal.Pieces Cert.KernelIdeal.Value Cert.Alg

variable (m : (ℓ : Loc nD τ sig) → Buf (Elt Ideal) ℓ) (c : Dev nD)

/-- one element of `dx`, of the argument arrays -/
def dxV (b : Fin 4) (s : Fin 8192) (k : Fin 4096) : EReal :=
  dxRow (fun k => m ((c : Thread nD τ).loc main_arg0) (ix3 b s k)) (fun k => m ((c : Thread nD τ).loc main_arg2) (ix3 b s k))
    (fun j => m ((c : Thread nD τ).loc main_arg1) (ix3 b s j)) (m ((c : Thread nD τ).loc main_arg3) (ix2 b s))
    (m ((c : Thread nD τ).loc main_arg4) (ix2 b s)) (fun k => m ((c : Thread nD τ).loc main_arg5) (ix1 k)) k

/-- a token's term of `dgamma`, scaled by block `j`'s factor -/
def tokV (j : Fin 32) (k : Fin 4096) (b : Fin 4) (s : Fin 8192) : EReal :=
  dgTok (m ((c : Thread nD τ).loc main_arg0) (ix3 b s k)) (m ((c : Thread nD τ).loc main_arg2) (ix3 b s k))
    (m ((c : Thread nD τ).loc main_arg1) (ix3 b s j)) (m ((c : Thread nD τ).loc main_arg3) (ix2 b s))

/-- what point `t` adds to row `r` of the accumulator -/
def accV (r : Fin 8) (k : Fin 4096) (t : Fin cfg0.N) : EReal := ∑ s : Fin 512, tokV m c ⟨k.val / 1024 * 8 + r.val, by omega⟩ k (pb t) (pt t s)

section point
variable (t : Fin cfg0.N)

theorem Yr_eq (s : Fin 512) : Yr (iblk m c 1 t) s = fun k => m ((c : Thread nD τ).loc main_arg0) (ix3 (pb t) (pt t s) k) := funext fun k => blk1 m c t s k
theorem DYr_eq (s : Fin 512) : DYr (iblk m c 2 t) s = fun k => m ((c : Thread nD τ).loc main_arg2) (ix3 (pb t) (pt t s) k) := funext fun k => blk2 m c t s k
theorem YSr_eq (s : Fin 512) : YSr (iblk m c 0 t) s = fun j => m ((c : Thread nD τ).loc main_arg1) (ix3 (pb t) (pt t s) j) := funext fun j => blk0 m c t j s
theorem TK3_eq (s : Fin 512) : TKr (iblk m c 3 t) (grid0.coords t) s = m ((c : Thread nD τ).loc main_arg3) (ix2 (pb t) (pt t s)) := by
  unfold TKr; rw [batch_eq, tokn_eq]; exact blk3 m c t _ _
theorem TK4_eq (s : Fin 512) : TKr (iblk m c 4 t) (grid0.coords t) s = m ((c : Thread nD τ).loc main_arg4) (ix2 (pb t) (pt t s)) := by
  unfold TKr; rw [batch_eq, tokn_eq]; exact blk4 m c t _ _
theorem Gr_eq : Gr (iblk m c 5 t) = fun k => m ((c : Thread nD τ).loc main_arg5) (ix1 k) := funext fun k => blk5 m c t k

theorem dx_pt (s : Fin 512) (k : Fin 4096) :
    dxRow (Yr (iblk m c 1 t) s) (DYr (iblk m c 2 t) s) (YSr (iblk m c 0 t) s) (TKr (iblk m c 3 t) (grid0.coords t) s) (TKr (iblk m c 4 t) (grid0.coords t) s) (Gr (iblk m c 5 t)) k
      = dxV m c (pb t) (pt t s) k := by
  rw [Yr_eq, DYr_eq, YSr_eq, TK3_eq, TK4_eq, Gr_eq]; rfl

theorem acc_pt (r : Fin 8) (k : Fin 4096) :
    accP (iblk m c 0 t) (iblk m c 1 t) (iblk m c 2 t) (iblk m c 3 t) (grid0.coords t) r k = accV m c r k t := by
  unfold accP accV
  refine Finset.sum_congr rfl fun s _ => ?_
  rw [Yr_eq, DYr_eq, YSr_eq, TK3_eq]; rfl

/-- the carried rows, over the argument `gamma` -/
def WtG (xs0 : Vec Ideal S128x4096 .bf16) : Prop :=
  ∀ (l : Fin 128) (k : Fin 4096), xs0 (ix2 l k) = if k.val / 128 = l.val then wq (m ((c : Thread nD τ).loc main_arg5) (ix1 k)) else 0
def GiG (xs1 : Vec Ideal S1x4096 .f32) : Prop := ∀ k : Fin 4096, xs1 (ix2 0 k) = gi (m ((c : Thread nD τ).loc main_arg5) (ix1 k))

theorem wt_iff (xs0 : Vec Ideal S128x4096 .bf16) : WtInv (iblk m c 5 t) xs0 ↔ WtG m c xs0 := by unfold WtInv WtG; rw [Gr_eq]
theorem gi_iff (xs1 : Vec Ideal S1x4096 .f32) : GiInv (iblk m c 5 t) xs1 ↔ GiG m c xs1 := by unfold GiInv GiG; rw [Gr_eq]

theorem H0 (h : t.val % 64 = 0) : cond0_0 (grid0.coords t) := (hcond0_0 t).mpr h
theorem N0 (h : ¬t.val % 64 = 0) : ¬cond0_0 (grid0.coords t) := fun e => h ((hcond0_0 t).mp e)
theorem H1 (h : t.val % 64 = 63) : cond0_1 (grid0.coords t) := (hcond0_1 t).mpr h
theorem N1 (h : ¬t.val % 64 = 63) : ¬cond0_1 (grid0.coords t) := fun e => h ((hcond0_1 t).mp e)

/-- the factors are nonnegative and finite -/
structure Ok : Prop where
  ys : ∀ b s j, NF (m ((c : Thread nD τ).loc main_arg1) (ix3 b s j))
  ds : ∀ b s, NF (m ((c : Thread nD τ).loc main_arg3) (ix2 b s))

variable (ok : Ok m c)
include ok

theorem ok_ys (b : Fin 32) (s : Fin 512) : NF (YSr (iblk m c 0 t) s b) := by rw [YSr_eq]; exact ok.ys _ _ _
theorem ok_ds (s : Fin 512) : NF (TKr (iblk m c 3 t) (grid0.coords t) s) := by rw [TK3_eq]; exact ok.ds _ _

/-- what a point leaves behind, besides its output blocks: the carried rows, and the accumulator `S` -/
def Inv (o : Vec Ideal S1x512x4096 .bf16 × Vec Ideal S1x4096 .f32 × Vec Ideal S128x4096 .bf16 × Vec Ideal S1x4096 .f32 × Vec Ideal S8x4096 .f32)
    (S : Fin 8 → Fin 4096 → EReal) : Prop :=
  WtG m c o.2.2.1 ∧ GiG m c o.2.2.2.1 ∧ ∀ (r : Fin 8) (k : Fin 4096), o.2.2.2.2 (ix2 r k) = S r k

/-- the block of `dx` a point writes -/
def Dx (o : Vec Ideal S1x512x4096 .bf16 × Vec Ideal S1x4096 .f32 × Vec Ideal S128x4096 .bf16 × Vec Ideal S1x4096 .f32 × Vec Ideal S8x4096 .f32) : Prop :=
  ∀ (s : Fin 512) (k : Fin 4096), o.1 (ix3 0 s k) = dxV m c (pb t) (pt t s) k

omit ok in
theorem inv_mk {o6 o7 s0 s1 s2} {S : Fin 8 → Fin 4096 → EReal} (h0 : WtG m c s0) (h1 : GiG m c s1) (h2 : ∀ (r : Fin 8) (k : Fin 4096), s2 (ix2 r k) = S r k) :
    Inv m c (o6, o7, s0, s1, s2) S := ⟨h0, h1, h2⟩
omit ok in
theorem dx_mk {o6 o7 s0 s1 s2} (h : ∀ (s : Fin 512) (k : Fin 4096), o6 (ix3 0 s k) = dxV m c (pb t) (pt t s) k) : Dx m c t (o6, o7, s0, s1, s2) := h
omit ok in
theorem dg_mk {o6 : Vec Ideal S1x512x4096 .bf16} {o7 : Vec Ideal S1x4096 .f32} {s0 : Vec Ideal S128x4096 .bf16} {s1 : Vec Ideal S1x4096 .f32} {s2 : Vec Ideal S8x4096 .f32}
    {X : Fin 4096 → EReal} (h : ∀ k : Fin 4096, o7 (ix2 0 k) = X k) (k : Fin 4096) : (o6, o7, s0, s1, s2).2.1 (ix2 0 k) = X k := h k

/-- the first point -/
theorem step_A (acc) (h0 : t.val % 64 = 0) (h1 : ¬t.val % 64 = 63) :
    Inv m c (stAt0 m c t.val t.isLt acc) (fun r k => accV m c r k t) ∧ Dx m c t (stAt0 m c t.val t.isLt acc) := by
  rw [stAt0_A m c t acc h0 h1]
  refine ⟨inv_mk m c ((wt_iff m c t _).1 (soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (H0 t h0) (N1 t h1))) ((gi_iff m c t _).1 (soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (H0 t h0) (N1 t h1))) fun r k => ?_, dx_mk m c t fun s k => ?_⟩
  · exact (soutA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (ok_ys m c t ok) (ok_ds m c t ok) (H0 t h0) (N1 t h1) r k).trans ((zero_add _).trans (acc_pt m c t r k))
  · exact (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (ok_ys m c t ok) (H0 t h0) (N1 t h1) s k).trans (dx_pt m c t s k)

/-- a middle point -/
theorem step_B (acc S) (hi : Inv m c acc S) (h0 : ¬t.val % 64 = 0) (h1 : ¬t.val % 64 = 63) :
    Inv m c (stAt0 m c t.val t.isLt acc) (fun r k => S r k + accV m c r k t) ∧ Dx m c t (stAt0 m c t.val t.isLt acc) := by
  rw [stAt0_B m c t acc h0 h1]
  refine ⟨inv_mk m c hi.1 hi.2.1 fun r k => ?_, dx_mk m c t fun s k => ?_⟩
  · exact (soutB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) acc.2.2.1 acc.2.2.2.1 acc.2.2.2.2 (ok_ys m c t ok) (ok_ds m c t ok) (N0 t h0) (N1 t h1) r k).trans (congrArg₂ _ (hi.2.2 r k) (acc_pt m c t r k))
  · exact (outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) acc.2.2.1 acc.2.2.2.1 acc.2.2.2.2 (ok_ys m c t ok) (N0 t h0) (N1 t h1) ((wt_iff m c t _).2 hi.1) ((gi_iff m c t _).2 hi.2.1) s k).trans (dx_pt m c t s k)

/-- the last point -/
theorem step_C (acc S) (hi : Inv m c acc S) (h0 : ¬t.val % 64 = 0) (h1 : t.val % 64 = 63) :
    (Inv m c (stAt0 m c t.val t.isLt acc) (fun r k => S r k + accV m c r k t) ∧ Dx m c t (stAt0 m c t.val t.isLt acc))
    ∧ ∀ k : Fin 4096, (stAt0 m c t.val t.isLt acc).2.1 (ix2 0 k)
        = (S ⟨k.val / 128 % 8, by omega⟩ k + accV m c ⟨k.val / 128 % 8, by omega⟩ k t) * gi (m ((c : Thread nD τ).loc main_arg5) (ix1 k)) := by
  rw [stAt0_C m c t acc h0 h1]
  refine ⟨⟨inv_mk m c hi.1 hi.2.1 fun r k => ?_, dx_mk m c t fun s k => ?_⟩, dg_mk fun k => ?_⟩
  · exact (soutC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) acc.2.2.1 acc.2.2.2.1 acc.2.2.2.2 (ok_ys m c t ok) (ok_ds m c t ok) (N0 t h0) (H1 t h1) r k).trans (congrArg₂ _ (hi.2.2 r k) (acc_pt m c t r k))
  · exact (outC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) acc.2.2.1 acc.2.2.2.1 acc.2.2.2.2 (ok_ys m c t ok) (N0 t h0) (H1 t h1) ((wt_iff m c t _).2 hi.1) ((gi_iff m c t _).2 hi.2.1) s k).trans (dx_pt m c t s k)
  · refine (outC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) acc.2.2.1 acc.2.2.2.1 acc.2.2.2.2 (ok_ys m c t ok) (ok_ds m c t ok) (N0 t h0) (H1 t h1) ((gi_iff m c t _).2 hi.2.1) k).trans ?_
    rw [acc_pt, Gr_eq]
    exact congrArg (fun z => (z + _) * _) (hi.2.2 _ k)

end point

/-- what the points up to `n` add to the accumulator -/
def upTo (n : ℕ) (r : Fin 8) (k : Fin 4096) : EReal := ∑ j ∈ Finset.range (n + 1), if h : j < cfg0.N then accV m c r k ⟨j, h⟩ else 0

theorem upTo_succ (n : ℕ) (hn : n + 1 < cfg0.N) (r : Fin 8) (k : Fin 4096) :
    upTo m c (n + 1) r k = upTo m c n r k + accV m c r k ⟨n + 1, hn⟩ := by
  rw [upTo, Finset.sum_range_succ, dif_pos hn]; rfl

theorem upTo_zero (hn : 0 < cfg0.N) (r : Fin 8) (k : Fin 4096) : upTo m c 0 r k = accV m c r k ⟨0, hn⟩ := by
  rw [upTo, Finset.sum_range_succ, dif_pos hn]; exact zero_add _

/-- after every point -/
theorem sweep (ok : Ok m c) : ∀ (n : ℕ) (hn : n < cfg0.N), Inv m c (outsAt0 m c n hn) (upTo m c n) ∧ Dx m c ⟨n, hn⟩ (outsAt0 m c n hn)
  | 0, hn => by
    rw [outsAt0_zero, show upTo m c 0 = fun r k => accV m c r k ⟨0, hn⟩ from funext fun r => funext fun k => upTo_zero m c hn r k]
    exact step_A m c ⟨0, hn⟩ ok junk0 (Nat.zero_mod _) (by show ¬0 % 64 = 63; omega)
  | n + 1, hn => by
    have hN : n + 1 < 64 := N_0 ▸ hn
    have ih := (sweep ok n (Nat.lt_of_succ_lt hn)).1
    rw [outsAt0_succ, show upTo m c (n + 1) = fun r k => upTo m c n r k + accV m c r k ⟨n + 1, hn⟩ from funext fun r => funext fun k => upTo_succ m c n hn r k]
    by_cases h1 : (n + 1) % 64 = 63
    · exact (step_C m c ⟨n + 1, hn⟩ ok _ _ ih (by show ¬(n + 1) % 64 = 0; omega) h1).1
    · exact step_B m c ⟨n + 1, hn⟩ ok _ _ ih (by show ¬(n + 1) % 64 = 0; omega) h1

/-- after the last point, `dgamma` -/
theorem last (ok : Ok m c) (h : 63 < cfg0.N) (k : Fin 4096) :
    (outsAt0 m c 63 h).2.1 (ix2 0 k) = upTo m c 63 ⟨k.val / 128 % 8, by omega⟩ k * gi (m ((c : Thread nD τ).loc main_arg5) (ix1 k)) := by
  rw [outsAt0_succ m c 62 h, upTo_succ m c 62 h]
  exact (step_C m c ⟨63, h⟩ ok _ _ (sweep m c ok 62 _).1 (by show ¬63 % 64 = 0; omega) (by show 63 % 64 = 63; omega)).2 k

end Cert.KernelIdeal.Win

end
-- ==== Proof.RefVal.lean ====
/- The reference's two results read at an index: the definition, and the kernel's algebraic form of it. -/
module

public import proofs.«01_k».proof.Proof.Gen.ReferenceIdeal.Value
public import proofs.«01_k».proof.Proof.Alg
public import Idealize.ShloMosaic.Lib.Pointwise
public import Idealize.ShloMosaic.Lib.Pipeline.ValueKit

@[expose] public section

set_option maxRecDepth 16384

noncomputable section

namespace Cert.RefVal

open Idealize.ShloMosaic Idealize.ShloMosaic.TcCoe Idealize.SL.Sem
open Cert.ReferenceIdeal Cert.ReferenceIdeal.Gen Cert.Alg

theorem hat_at (a0 : Vec Ideal S4x8192x4096 .fp8e4m3) (a1 : Vec Ideal S4x8192x32 .f32) (a5 : Vec Ideal S4096 .f32)
    (b : Fin 4) (s : Fin 8192) (k : Fin 4096) : k0_pay3 (F := Ideal) a0 a1 a5 (ix3 b s k)
      = Ideal.div ((show EReal from a0 (ix3 b s k)) * (show EReal from a1 (ix3 b s (blk k)))) (gd (show EReal from a5 (ix1 k))) := by
  pointwise [k0_pay3]
  rfl

theorem g_at (a2 : Vec Ideal S4x8192x4096 .fp8e5m2) (a3 : Vec Ideal S4x8192 .f32) (b : Fin 4) (s : Fin 8192) (k : Fin 4096) :
    k0_pay2 (F := Ideal) a2 a3 (ix3 b s k) = (show EReal from a2 (ix3 b s k)) * (show EReal from a3 (ix2 b s)) := by
  pointwise [k0_pay2]

theorem dx_at (a0 : Vec Ideal S4x8192x4096 .fp8e4m3) (a1 : Vec Ideal S4x8192x32 .f32) (a2 : Vec Ideal S4x8192x4096 .fp8e5m2)
    (a3 a4 : Vec Ideal S4x8192 .f32) (a5 : Vec Ideal S4096 .f32) (b : Fin 4) (s : Fin 8192) (k : Fin 4096)
    (h3 : NF (show EReal from a3 (ix2 b s))) (h4 : NF (show EReal from a4 (ix2 b s))) :
    k0_pay4 (F := Ideal) a0 a1 a2 a3 a4 a5 (ix3 b s k)
      = dxRow (fun k => a0 (ix3 b s k)) (fun k => a2 (ix3 b s k)) (fun j => a1 (ix3 b s j)) (a3 (ix2 b s)) (a4 (ix2 b s)) (fun k => a5 (ix1 k)) k := by
  have hh := fun k => hat_at a0 a1 a5 b s k
  have hg := fun k => g_at a2 a3 b s k
  refine Eq.trans ?_ (dx_alg (a0 (ix3 b s k)) (a1 (ix3 b s (blk k))) (a2 (ix3 b s k)) (a3 (ix2 b s)) (a4 (ix2 b s)) (a5 (ix1 k)) h3 h4
    (fun k => a0 (ix3 b s k)) (fun k => a1 (ix3 b s (blk k))) (fun k => a2 (ix3 b s k)) (fun k => a5 (ix1 k)))
  pointwise [k0_pay4, hh, hg]

/-- the sum over batches and tokens that keeps the channel -/
theorem sum01 (v : S4x8192x4096.Idx → EReal) (k : Fin 4096) : Ideal.reduceAdd reduces_S4x8192x4096_S4096 v (ix1 k)
    = ∑ p : Fin 4 × Fin 8192, v (ix3 p.1 p.2 k) := by
  refine Finset.sum_filter_eq_sum_of_fiber _ (fun p : Fin 4 × Fin 8192 => (ix3 p.1 p.2 k : S4x8192x4096.Idx))
    (fun _ _ e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

theorem dg_at (a0 : Vec Ideal S4x8192x4096 .fp8e4m3) (a1 : Vec Ideal S4x8192x32 .f32) (a2 : Vec Ideal S4x8192x4096 .fp8e5m2)
    (a3 : Vec Ideal S4x8192 .f32) (a5 : Vec Ideal S4096 .f32) (k : Fin 4096) :
    k0_pay1 (F := Ideal) a5 (k0_pay2 a2 a3) (k0_pay3 a0 a1 a5) (ix2 0 k)
      = (∑ b : Fin 4, ∑ s : Fin 8192, dgTok (a0 (ix3 b s k)) (a2 (ix3 b s k)) (a1 (ix3 b s (blk k))) (a3 (ix2 b s))) * gi (a5 (ix1 k)) := by
  have hh := fun b s => hat_at a0 a1 a5 b s k
  have hg := fun b s => g_at a2 a3 b s k
  rw [← Fintype.sum_prod_type' (fun (b : Fin 4) (s : Fin 8192) => dgTok (a0 (ix3 b s k)) (a2 (ix3 b s k)) (a1 (ix3 b s (blk k))) (a3 (ix2 b s)))]
  refine Eq.trans ?_ (dg_alg Finset.univ (fun p : Fin 4 × Fin 8192 => a0 (ix3 p.1 p.2 k)) (fun p => a1 (ix3 p.1 p.2 (blk k))) (fun p => a2 (ix3 p.1 p.2 k))
    (fun p => a3 (ix2 p.1 p.2)) (a5 (ix1 k)))
  pointwise [k0_pay1]
  rw [sum01, sum01]
  pointwise [hh, hg]

end Cert.RefVal
end
-- ==== Proof.Final.lean ====
/- The arrays the kernel leaves, against the reference's. -/
module

public import proofs.«01_k».proof.Proof.Run
public import proofs.«01_k».proof.Proof.RefVal
public import proofs.«01_k».proof.Defs

@[expose] public section

set_option maxRecDepth 16384

noncomputable section

namespace Cert.KernelIdeal.Win

open Idealize.ShloMosaic Idealize.ShloMosaic.TcCoe Idealize.SL.Sem
open Cert.KernelIdeal Cert.KernelIdeal.Gen Cert.KernelIdeal.Pieces Cert.KernelIdeal.Value Cert.Alg

variable (m : (ℓ : Loc nD τ sig) → Buf (Elt Ideal) ℓ) (c : Dev nD)

/-! ## `dx` -/

theorem dx_arr (ok : Ok m c) (b : Fin 4) (s : Fin 8192) (k : Fin 4096) : Value.G6 m c (ix3 b s k) = dxV m c b s k := by
  have hn : pt6Of (ix3 b s k) = 16 * b.val + s.val / 512 := by
    show 16 * (b.val / 1 - 0) + 1 * (s.val / 512 - 0) + 1 * (k.val / 4096 - 0) = _
    omega
  have hp : pt6Of (ix3 b s k) < cfg0.N := by rw [hn, show cfg0.N = 64 from N_0]; omega
  have hl : loc6Of (ix3 b s k) = ix3 0 ⟨s.val % 512, by omega⟩ k := by
    funext a; apply Fin.ext
    match a with
    | ⟨0, _⟩ => show b.val % 1 = 0; omega
    | ⟨1, _⟩ => rfl
    | ⟨2, _⟩ => show k.val % 4096 = k.val; omega
  unfold Value.G6
  rw [dif_pos hp, ← outsAt0_sweep m c _ hp, hl]
  refine ((sweep m c ok _ hp).2 _ _).trans ?_
  have hb : pb ⟨pt6Of (ix3 b s k), hp⟩ = b := Fin.ext (by show pt6Of (ix3 b s k) / 16 = b.val; rw [hn]; omega)
  have hs : pt ⟨pt6Of (ix3 b s k), hp⟩ ⟨s.val % 512, by omega⟩ = s :=
    Fin.ext (by show 512 * (pt6Of (ix3 b s k) % 16) + s.val % 512 = s.val; rw [hn]; omega)
  rw [hb, hs]

/-! ## `dgamma` -/

/-- a sum over `a * b` places, by rows of `b` -/
theorem sum_split (a b N : ℕ) (h : a * b = N) (f : Fin N → EReal) :
    ∑ x, f x = ∑ i : Fin a, ∑ j : Fin b, f ⟨b * i.val + j.val, by subst h; exact (finProdFinEquiv (i, j)).isLt.trans_eq' (by simp [finProdFinEquiv, Nat.add_comm])⟩ := by
  subst h
  rw [← Fintype.sum_prod_type', ← finProdFinEquiv.sum_comp]
  refine Finset.sum_congr rfl fun x _ => congrArg f (Fin.ext ?_)
  simp [finProdFinEquiv, Nat.add_comm]

/-- the accumulator's row of channel `k`, after the last point, sums every token -/
theorem upTo_all (k : Fin 4096) :
    upTo m c 63 ⟨k.val / 128 % 8, by omega⟩ k = ∑ b : Fin 4, ∑ s : Fin 8192, tokV m c (blk k) k b s := by
  have hj : (⟨k.val / 1024 * 8 + k.val / 128 % 8, by omega⟩ : Fin 32) = blk k := Fin.ext (by show k.val / 1024 * 8 + k.val / 128 % 8 = k.val / 128; omega)
  unfold upTo
  rw [Finset.sum_range, sum_split 4 16 64 rfl]
  refine Finset.sum_congr rfl fun b _ => ?_
  rw [sum_split 16 512 8192 rfl]
  refine Finset.sum_congr rfl fun q _ => ?_
  have ht : 16 * b.val + q.val < cfg0.N := by rw [show cfg0.N = 64 from N_0]; omega
  rw [dif_pos ht, accV]
  refine Finset.sum_congr rfl fun s _ => ?_
  have hb : pb ⟨16 * b.val + q.val, ht⟩ = b := Fin.ext (by show (16 * b.val + q.val) / 16 = b.val; omega)
  have hs : pt ⟨16 * b.val + q.val, ht⟩ s = ⟨512 * q.val + s.val, by omega⟩ :=
    Fin.ext (by show 512 * ((16 * b.val + q.val) % 16) + s.val = 512 * q.val + s.val; omega)
  rw [hb, hs]
  exact congrArg (fun j => tokV m c j k b _) hj

theorem dg_arr (ok : Ok m c) (k : Fin 4096) :
    Value.G7 m c (ix2 0 k) = (∑ b : Fin 4, ∑ s : Fin 8192, tokV m c (blk k) k b s) * gi (m ((c : Thread nD τ).loc main_arg5) (ix1 k)) := by
  rw [G7_last, ← outsAt0_sweep m c 63 (lt_of_lt_of_eq (by decide) N_0.symm), last m c ok, upTo_all]

/-! ## Against the reference -/

theorem dx_eq (ok : Ok m c) (h4 : ∀ b s, NF (m ((c : Thread nD τ).loc main_arg4) (ix2 b s))) :
    Value.G6 m c = Cert.ReferenceIdeal.Value.G6 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨b, s, k, rfl⟩ : ∃ (b : Fin 4) (s : Fin 8192) (k : Fin 4096), i = ix3 b s k :=
    ⟨i 0, i 1, i 2, by funext a; match a with | ⟨0, _⟩ => rfl | ⟨1, _⟩ => rfl | ⟨2, _⟩ => rfl⟩
  exact (dx_arr m c ok b s k).trans (Cert.RefVal.dx_at _ _ _ _ _ _ b s k (ok.ds b s) (h4 b s)).symm

theorem dg_eq (ok : Ok m c) :
    Value.G7 m c = Cert.ReferenceIdeal.Value.G7 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨z, k, rfl⟩ : ∃ (z : Fin 1) (k : Fin 4096), i = ix2 z k := ⟨i 0, i 1, by funext a; match a with | ⟨0, _⟩ => rfl | ⟨1, _⟩ => rfl⟩
  obtain rfl : z = 0 := Subsingleton.elim _ _
  exact (dg_arr m c ok k).trans (Cert.RefVal.dg_at _ _ _ _ _ k).symm

/-! ## What the precondition says -/

theorem preFacts : Cert.Pre_factors_ok.Facts := ⟨by decide, by decide⟩

theorem inf_val : Ideal.ofBits .f32 0x7F800000#32 = ⊤ := by
  simp [Ideal.ofBits, Ideal.ieee]

theorem nf_of (x : EReal) (h : IntOp.andi (BitVec.ofBool (decide (0 ≤ x))) (BitVec.ofBool (decide (x < Ideal.ofBits .f32 0x7F800000#32))) = 1#1) : NF x := by
  rw [inf_val] at h
  by_cases h0 : 0 ≤ x <;> by_cases h1 : x < ⊤ <;> simp [h0, h1, IntOp.andi] at h
  exact ⟨h0, h1.ne⟩

/-- the factors of the blocks, of the tokens, and the reciprocal norms are nonnegative and finite -/
theorem pre_ok (h : Cert.Pre_KernelIdeal_factors_ok (hPre_factors_ok := preFacts) m) :
    Ok m c ∧ ∀ b s, NF (m ((c : Thread nD τ).loc main_arg4) (ix2 b s)) := by
  obtain ⟨h1, h3, h4⟩ := h c
  refine ⟨⟨fun b s j => ?_, fun b s => ?_⟩, fun b s => ?_⟩
  · have e := congrFun h1 (ix3 b s j)
    unfold Cert.Pre_factors_ok.fn at e
    pointwise at e
    exact nf_of _ e
  · have e := congrFun h3 (ix2 b s)
    unfold Cert.Pre_factors_ok.fn at e
    pointwise at e
    exact nf_of _ e
  · have e := congrFun h4 (ix2 b s)
    unfold Cert.Pre_factors_ok.fn at e
    pointwise at e
    exact nf_of _ e

end Cert.KernelIdeal.Win

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Final
public import Idealize.ShloMosaic.Adequacy
public import Idealize.ShloMosaic.Init

@[expose] public section

noncomputable section

namespace Cert.Proof

open Idealize.ShloMosaic Idealize.SL.Sem Cert.Kernel

/-- the two programs' results, equal on the extended reals -/
theorem algebraic : Cert.algebraic_KernelIdeal_ReferenceIdeal_pre_factors_ok (hKernelIdeal := Cert.KernelIdeal.Gen.facts)
    (hReferenceIdeal := Cert.ReferenceIdeal.Gen.facts) (hPre_factors_ok := Cert.KernelIdeal.Win.preFacts) := by
  intro m g m' g' hpre hagree
  refine ⟨fun c => Cert.KernelIdeal.Value.G6 m c, fun c => Cert.KernelIdeal.Value.G7 m c, Cert.KernelIdeal.Value.run m g,
    (θ_run _ _ _).mono (fun r h c => ?_) (Cert.ReferenceIdeal.Value.run m' g')⟩
  obtain ⟨h0, h1, hk⟩ := h c
  obtain ⟨a0, a1, a2, a3, a4, a5⟩ := hagree c
  obtain ⟨ok, h4⟩ := Cert.KernelIdeal.Win.pre_ok m c hpre
  refine ⟨h0.trans ?_, h1.trans ?_, hk⟩
  · rw [a0, a1, a2, a3, a4, a5]
    exact (Cert.KernelIdeal.Win.dx_eq m c ok h4).symm
  · rw [a0, a1, a2, a3, a4, a5]
    exact (Cert.KernelIdeal.Win.dg_eq m c ok).symm

/-- everything the certificate claims -/
theorem claim : Cert.Claim := ⟨Cert.Kernel.Gen.facts, Cert.KernelIdeal.Gen.facts, Cert.ReferenceIdeal.Gen.facts, Cert.KernelIdeal.Win.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
